-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_AttnRef (m : (ℓ : Loc Cert.AttnRef.nD Cert.AttnRef.τ Cert.AttnRef.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeOne (m : (ℓ : Loc Cert.MergeOne.nD Cert.MergeOne.τ Cert.MergeOne.sig) → Buf (Elt Bits) ℓ) : Prop :=
  True

def Pre_MergeOneIdeal (m : (ℓ : Loc Cert.MergeOneIdeal.nD Cert.MergeOneIdeal.τ Cert.MergeOneIdeal.sig) → Buf (Elt Ideal) ℓ) : Prop :=
  True

def Pre_MergeOneRefIdeal (m : (ℓ : Loc Cert.MergeOneRefIdeal.nD Cert.MergeOneRefIdeal.τ Cert.MergeOneRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRef [hAttnRef : Cert.AttnRef.Facts] : Prop :=
  ∀ (m : (ℓ : Loc Cert.AttnRef.nD Cert.AttnRef.τ Cert.AttnRef.sig) → Buf (Elt Bits) ℓ) (g : Dev Cert.AttnRef.nD → PrngReg), Pre_AttnRef m →
    θ_run (Cert.AttnRef.defs (F := Bits)) (onTc (τ := Cert.AttnRef.τ) (Cert.AttnRef.main (F := Bits))) ⟨m, fun _ => 0, g⟩ (fun r => (∀ c : Dev Cert.AttnRef.nD,
      r.2.mem ((c.tc : Thread Cert.AttnRef.nD Cert.AttnRef.τ).loc Cert.AttnRef.main_arg0) = m ((c.tc : Thread Cert.AttnRef.nD Cert.AttnRef.τ).loc Cert.AttnRef.main_arg0)
      ∧ r.2.mem ((c.tc : Thread Cert.AttnRef.nD Cert.AttnRef.τ).loc Cert.AttnRef.main_arg1) = m ((c.tc : Thread Cert.AttnRef.nD Cert.AttnRef.τ).loc Cert.AttnRef.main_arg1)
      ∧ r.2.mem ((c.tc : Thread Cert.AttnRef.nD Cert.AttnRef.τ).loc Cert.AttnRef.main_arg2) = m ((c.tc : Thread Cert.AttnRef.nD Cert.AttnRef.τ).loc Cert.AttnRef.main_arg2)
      ∧ r.2.mem ((c.tc : Thread Cert.AttnRef.nD Cert.AttnRef.τ).loc Cert.AttnRef.main_arg3) = m ((c.tc : Thread Cert.AttnRef.nD Cert.AttnRef.τ).loc Cert.AttnRef.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeOne [hMergeOne : Cert.MergeOne.Facts] : Prop :=
  ∀ (m : (ℓ : Loc Cert.MergeOne.nD Cert.MergeOne.τ Cert.MergeOne.sig) → Buf (Elt Bits) ℓ) (g : Dev Cert.MergeOne.nD → PrngReg), Pre_MergeOne m →
    θ_run (Cert.MergeOne.defs (F := Bits)) (onTc (τ := Cert.MergeOne.τ) (Cert.MergeOne.main (F := Bits))) ⟨m, fun _ => 0, g⟩ (fun r => (∀ c : Dev Cert.MergeOne.nD,
      r.2.mem ((c.tc : Thread Cert.MergeOne.nD Cert.MergeOne.τ).loc Cert.MergeOne.main_arg0) = m ((c.tc : Thread Cert.MergeOne.nD Cert.MergeOne.τ).loc Cert.MergeOne.main_arg0)
      ∧ r.2.mem ((c.tc : Thread Cert.MergeOne.nD Cert.MergeOne.τ).loc Cert.MergeOne.main_arg1) = m ((c.tc : Thread Cert.MergeOne.nD Cert.MergeOne.τ).loc Cert.MergeOne.main_arg1)
      ∧ r.2.mem ((c.tc : Thread Cert.MergeOne.nD Cert.MergeOne.τ).loc Cert.MergeOne.main_arg2) = m ((c.tc : Thread Cert.MergeOne.nD Cert.MergeOne.τ).loc Cert.MergeOne.main_arg2)
      ∧ r.2.mem ((c.tc : Thread Cert.MergeOne.nD Cert.MergeOne.τ).loc Cert.MergeOne.main_arg3) = m ((c.tc : Thread Cert.MergeOne.nD Cert.MergeOne.τ).loc Cert.MergeOne.main_arg3)
      ∧ r.2.mem ((c.tc : Thread Cert.MergeOne.nD Cert.MergeOne.τ).loc Cert.MergeOne.main_arg4) = m ((c.tc : Thread Cert.MergeOne.nD Cert.MergeOne.τ).loc Cert.MergeOne.main_arg4)
      ∧ r.2.mem ((c.tc : Thread Cert.MergeOne.nD Cert.MergeOne.τ).loc Cert.MergeOne.main_arg5) = m ((c.tc : Thread Cert.MergeOne.nD Cert.MergeOne.τ).loc Cert.MergeOne.main_arg5)
      ∧ r.2.mem ((c.tc : Thread Cert.MergeOne.nD Cert.MergeOne.τ).loc Cert.MergeOne.main_arg6) = m ((c.tc : Thread Cert.MergeOne.nD Cert.MergeOne.τ).loc Cert.MergeOne.main_arg6)
      ∧ r.2.mem ((c.tc : Thread Cert.MergeOne.nD Cert.MergeOne.τ).loc Cert.MergeOne.main_arg7) = m ((c.tc : Thread Cert.MergeOne.nD Cert.MergeOne.τ).loc Cert.MergeOne.main_arg7))
      ∧ r.2.sem = fun _ => 0)

def quiescent_MergeOneIdeal [hMergeOneIdeal : Cert.MergeOneIdeal.Facts] : Prop :=
  ∀ (m : (ℓ : Loc Cert.MergeOneIdeal.nD Cert.MergeOneIdeal.τ Cert.MergeOneIdeal.sig) → Buf (Elt Ideal) ℓ) (g : Dev Cert.MergeOneIdeal.nD → PrngReg), Pre_MergeOneIdeal m →
    θ_run (Cert.MergeOneIdeal.defs (F := Ideal)) (onTc (τ := Cert.MergeOneIdeal.τ) (Cert.MergeOneIdeal.main (F := Ideal))) ⟨m, fun _ => 0, g⟩ (fun r => (∀ c : Dev Cert.MergeOneIdeal.nD,
      r.2.mem ((c.tc : Thread Cert.MergeOneIdeal.nD Cert.MergeOneIdeal.τ).loc Cert.MergeOneIdeal.main_arg0) = m ((c.tc : Thread Cert.MergeOneIdeal.nD Cert.MergeOneIdeal.τ).loc Cert.MergeOneIdeal.main_arg0)
      ∧ r.2.mem ((c.tc : Thread Cert.MergeOneIdeal.nD Cert.MergeOneIdeal.τ).loc Cert.MergeOneIdeal.main_arg1) = m ((c.tc : Thread Cert.MergeOneIdeal.nD Cert.MergeOneIdeal.τ).loc Cert.MergeOneIdeal.main_arg1)
      ∧ r.2.mem ((c.tc : Thread Cert.MergeOneIdeal.nD Cert.MergeOneIdeal.τ).loc Cert.MergeOneIdeal.main_arg2) = m ((c.tc : Thread Cert.MergeOneIdeal.nD Cert.MergeOneIdeal.τ).loc Cert.MergeOneIdeal.main_arg2)
      ∧ r.2.mem ((c.tc : Thread Cert.MergeOneIdeal.nD Cert.MergeOneIdeal.τ).loc Cert.MergeOneIdeal.main_arg3) = m ((c.tc : Thread Cert.MergeOneIdeal.nD Cert.MergeOneIdeal.τ).loc Cert.MergeOneIdeal.main_arg3)
      ∧ r.2.mem ((c.tc : Thread Cert.MergeOneIdeal.nD Cert.MergeOneIdeal.τ).loc Cert.MergeOneIdeal.main_arg4) = m ((c.tc : Thread Cert.MergeOneIdeal.nD Cert.MergeOneIdeal.τ).loc Cert.MergeOneIdeal.main_arg4)
      ∧ r.2.mem ((c.tc : Thread Cert.MergeOneIdeal.nD Cert.MergeOneIdeal.τ).loc Cert.MergeOneIdeal.main_arg5) = m ((c.tc : Thread Cert.MergeOneIdeal.nD Cert.MergeOneIdeal.τ).loc Cert.MergeOneIdeal.main_arg5)
      ∧ r.2.mem ((c.tc : Thread Cert.MergeOneIdeal.nD Cert.MergeOneIdeal.τ).loc Cert.MergeOneIdeal.main_arg6) = m ((c.tc : Thread Cert.MergeOneIdeal.nD Cert.MergeOneIdeal.τ).loc Cert.MergeOneIdeal.main_arg6)
      ∧ r.2.mem ((c.tc : Thread Cert.MergeOneIdeal.nD Cert.MergeOneIdeal.τ).loc Cert.MergeOneIdeal.main_arg7) = m ((c.tc : Thread Cert.MergeOneIdeal.nD Cert.MergeOneIdeal.τ).loc Cert.MergeOneIdeal.main_arg7))
      ∧ r.2.sem = fun _ => 0)

def quiescent_MergeOneRefIdeal [hMergeOneRefIdeal : Cert.MergeOneRefIdeal.Facts] : Prop :=
  ∀ (m : (ℓ : Loc Cert.MergeOneRefIdeal.nD Cert.MergeOneRefIdeal.τ Cert.MergeOneRefIdeal.sig) → Buf (Elt Ideal) ℓ) (g : Dev Cert.MergeOneRefIdeal.nD → PrngReg), Pre_MergeOneRefIdeal m →
    θ_run (Cert.MergeOneRefIdeal.defs (F := Ideal)) (onTc (τ := Cert.MergeOneRefIdeal.τ) (Cert.MergeOneRefIdeal.main (F := Ideal))) ⟨m, fun _ => 0, g⟩ (fun r => (∀ c : Dev Cert.MergeOneRefIdeal.nD,
      r.2.mem ((c.tc : Thread Cert.MergeOneRefIdeal.nD Cert.MergeOneRefIdeal.τ).loc Cert.MergeOneRefIdeal.main_arg0) = m ((c.tc : Thread Cert.MergeOneRefIdeal.nD Cert.MergeOneRefIdeal.τ).loc Cert.MergeOneRefIdeal.main_arg0)
      ∧ r.2.mem ((c.tc : Thread Cert.MergeOneRefIdeal.nD Cert.MergeOneRefIdeal.τ).loc Cert.MergeOneRefIdeal.main_arg1) = m ((c.tc : Thread Cert.MergeOneRefIdeal.nD Cert.MergeOneRefIdeal.τ).loc Cert.MergeOneRefIdeal.main_arg1)
      ∧ r.2.mem ((c.tc : Thread Cert.MergeOneRefIdeal.nD Cert.MergeOneRefIdeal.τ).loc Cert.MergeOneRefIdeal.main_arg2) = m ((c.tc : Thread Cert.MergeOneRefIdeal.nD Cert.MergeOneRefIdeal.τ).loc Cert.MergeOneRefIdeal.main_arg2)
      ∧ r.2.mem ((c.tc : Thread Cert.MergeOneRefIdeal.nD Cert.MergeOneRefIdeal.τ).loc Cert.MergeOneRefIdeal.main_arg3) = m ((c.tc : Thread Cert.MergeOneRefIdeal.nD Cert.MergeOneRefIdeal.τ).loc Cert.MergeOneRefIdeal.main_arg3)
      ∧ r.2.mem ((c.tc : Thread Cert.MergeOneRefIdeal.nD Cert.MergeOneRefIdeal.τ).loc Cert.MergeOneRefIdeal.main_arg4) = m ((c.tc : Thread Cert.MergeOneRefIdeal.nD Cert.MergeOneRefIdeal.τ).loc Cert.MergeOneRefIdeal.main_arg4)
      ∧ r.2.mem ((c.tc : Thread Cert.MergeOneRefIdeal.nD Cert.MergeOneRefIdeal.τ).loc Cert.MergeOneRefIdeal.main_arg5) = m ((c.tc : Thread Cert.MergeOneRefIdeal.nD Cert.MergeOneRefIdeal.τ).loc Cert.MergeOneRefIdeal.main_arg5)
      ∧ r.2.mem ((c.tc : Thread Cert.MergeOneRefIdeal.nD Cert.MergeOneRefIdeal.τ).loc Cert.MergeOneRefIdeal.main_arg6) = m ((c.tc : Thread Cert.MergeOneRefIdeal.nD Cert.MergeOneRefIdeal.τ).loc Cert.MergeOneRefIdeal.main_arg6)
      ∧ r.2.mem ((c.tc : Thread Cert.MergeOneRefIdeal.nD Cert.MergeOneRefIdeal.τ).loc Cert.MergeOneRefIdeal.main_arg7) = m ((c.tc : Thread Cert.MergeOneRefIdeal.nD Cert.MergeOneRefIdeal.τ).loc Cert.MergeOneRefIdeal.main_arg7))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "c" .f32 0x3E0293EE#32 (((Real.sqrt 128)⁻¹ * (Real.log 2)⁻¹ : ℝ) : EReal)

def preserves_AttnRef_AttnRefIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v8)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v86) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeOne_MergeOneIdeal : Prop :=
  True

def algebraic_MergeOneIdeal_MergeOneRefIdeal [hMergeOneIdeal : Cert.MergeOneIdeal.Facts] [hMergeOneRefIdeal : Cert.MergeOneRefIdeal.Facts] : Prop :=
  ∀ (m : (ℓ : Loc Cert.MergeOneIdeal.nD Cert.MergeOneIdeal.τ Cert.MergeOneIdeal.sig) → Buf (Elt Ideal) ℓ) (g : Dev Cert.MergeOneIdeal.nD → PrngReg)
    (m' : (ℓ : Loc Cert.MergeOneRefIdeal.nD Cert.MergeOneRefIdeal.τ Cert.MergeOneRefIdeal.sig) → Buf (Elt Ideal) ℓ) (g' : Dev Cert.MergeOneRefIdeal.nD → PrngReg), Pre_MergeOneIdeal m →
    (∀ c : Dev Cert.MergeOneIdeal.nD,
      m' ((c.tc : Thread Cert.MergeOneRefIdeal.nD Cert.MergeOneRefIdeal.τ).loc Cert.MergeOneRefIdeal.main_arg0) = m ((c.tc : Thread Cert.MergeOneIdeal.nD Cert.MergeOneIdeal.τ).loc Cert.MergeOneIdeal.main_arg0)
      ∧ m' ((c.tc : Thread Cert.MergeOneRefIdeal.nD Cert.MergeOneRefIdeal.τ).loc Cert.MergeOneRefIdeal.main_arg1) = m ((c.tc : Thread Cert.MergeOneIdeal.nD Cert.MergeOneIdeal.τ).loc Cert.MergeOneIdeal.main_arg1)
      ∧ m' ((c.tc : Thread Cert.MergeOneRefIdeal.nD Cert.MergeOneRefIdeal.τ).loc Cert.MergeOneRefIdeal.main_arg2) = m ((c.tc : Thread Cert.MergeOneIdeal.nD Cert.MergeOneIdeal.τ).loc Cert.MergeOneIdeal.main_arg2)
      ∧ m' ((c.tc : Thread Cert.MergeOneRefIdeal.nD Cert.MergeOneRefIdeal.τ).loc Cert.MergeOneRefIdeal.main_arg3) = m ((c.tc : Thread Cert.MergeOneIdeal.nD Cert.MergeOneIdeal.τ).loc Cert.MergeOneIdeal.main_arg3)
      ∧ m' ((c.tc : Thread Cert.MergeOneRefIdeal.nD Cert.MergeOneRefIdeal.τ).loc Cert.MergeOneRefIdeal.main_arg4) = m ((c.tc : Thread Cert.MergeOneIdeal.nD Cert.MergeOneIdeal.τ).loc Cert.MergeOneIdeal.main_arg4)
      ∧ m' ((c.tc : Thread Cert.MergeOneRefIdeal.nD Cert.MergeOneRefIdeal.τ).loc Cert.MergeOneRefIdeal.main_arg5) = m ((c.tc : Thread Cert.MergeOneIdeal.nD Cert.MergeOneIdeal.τ).loc Cert.MergeOneIdeal.main_arg5)
      ∧ m' ((c.tc : Thread Cert.MergeOneRefIdeal.nD Cert.MergeOneRefIdeal.τ).loc Cert.MergeOneRefIdeal.main_arg6) = m ((c.tc : Thread Cert.MergeOneIdeal.nD Cert.MergeOneIdeal.τ).loc Cert.MergeOneIdeal.main_arg6)
      ∧ m' ((c.tc : Thread Cert.MergeOneRefIdeal.nD Cert.MergeOneRefIdeal.τ).loc Cert.MergeOneRefIdeal.main_arg7) = m ((c.tc : Thread Cert.MergeOneIdeal.nD Cert.MergeOneIdeal.τ).loc Cert.MergeOneIdeal.main_arg7)) →
    ∃ (v0 : (c : Dev Cert.MergeOneIdeal.nD) → Buf (Elt Ideal) ((c.tc : Thread Cert.MergeOneIdeal.nD Cert.MergeOneIdeal.τ).loc Cert.MergeOneIdeal.main_v6_0)) (v1 : (c : Dev Cert.MergeOneIdeal.nD) → Buf (Elt Ideal) ((c.tc : Thread Cert.MergeOneIdeal.nD Cert.MergeOneIdeal.τ).loc Cert.MergeOneIdeal.main_v6_1)),
      θ_run (Cert.MergeOneIdeal.defs (F := Ideal)) (onTc (τ := Cert.MergeOneIdeal.τ) (Cert.MergeOneIdeal.main (F := Ideal))) ⟨m, fun _ => 0, g⟩ (fun r => ∀ c : Dev Cert.MergeOneIdeal.nD,
          r.2.mem ((c.tc : Thread Cert.MergeOneIdeal.nD Cert.MergeOneIdeal.τ).loc Cert.MergeOneIdeal.main_v6_0) = v0 c
          ∧ r.2.mem ((c.tc : Thread Cert.MergeOneIdeal.nD Cert.MergeOneIdeal.τ).loc Cert.MergeOneIdeal.main_v6_1) = v1 c
          ∧ r.2.mem ((c.tc : Thread Cert.MergeOneIdeal.nD Cert.MergeOneIdeal.τ).loc Cert.MergeOneIdeal.main_arg0) = m ((c.tc : Thread Cert.MergeOneIdeal.nD Cert.MergeOneIdeal.τ).loc Cert.MergeOneIdeal.main_arg0)
          ∧ r.2.mem ((c.tc : Thread Cert.MergeOneIdeal.nD Cert.MergeOneIdeal.τ).loc Cert.MergeOneIdeal.main_arg1) = m ((c.tc : Thread Cert.MergeOneIdeal.nD Cert.MergeOneIdeal.τ).loc Cert.MergeOneIdeal.main_arg1)
          ∧ r.2.mem ((c.tc : Thread Cert.MergeOneIdeal.nD Cert.MergeOneIdeal.τ).loc Cert.MergeOneIdeal.main_arg2) = m ((c.tc : Thread Cert.MergeOneIdeal.nD Cert.MergeOneIdeal.τ).loc Cert.MergeOneIdeal.main_arg2)
          ∧ r.2.mem ((c.tc : Thread Cert.MergeOneIdeal.nD Cert.MergeOneIdeal.τ).loc Cert.MergeOneIdeal.main_arg3) = m ((c.tc : Thread Cert.MergeOneIdeal.nD Cert.MergeOneIdeal.τ).loc Cert.MergeOneIdeal.main_arg3)
          ∧ r.2.mem ((c.tc : Thread Cert.MergeOneIdeal.nD Cert.MergeOneIdeal.τ).loc Cert.MergeOneIdeal.main_arg4) = m ((c.tc : Thread Cert.MergeOneIdeal.nD Cert.MergeOneIdeal.τ).loc Cert.MergeOneIdeal.main_arg4)
          ∧ r.2.mem ((c.tc : Thread Cert.MergeOneIdeal.nD Cert.MergeOneIdeal.τ).loc Cert.MergeOneIdeal.main_arg5) = m ((c.tc : Thread Cert.MergeOneIdeal.nD Cert.MergeOneIdeal.τ).loc Cert.MergeOneIdeal.main_arg5)
          ∧ r.2.mem ((c.tc : Thread Cert.MergeOneIdeal.nD Cert.MergeOneIdeal.τ).loc Cert.MergeOneIdeal.main_arg6) = m ((c.tc : Thread Cert.MergeOneIdeal.nD Cert.MergeOneIdeal.τ).loc Cert.MergeOneIdeal.main_arg6)
          ∧ r.2.mem ((c.tc : Thread Cert.MergeOneIdeal.nD Cert.MergeOneIdeal.τ).loc Cert.MergeOneIdeal.main_arg7) = m ((c.tc : Thread Cert.MergeOneIdeal.nD Cert.MergeOneIdeal.τ).loc Cert.MergeOneIdeal.main_arg7))
      ∧ θ_run (Cert.MergeOneRefIdeal.defs (F := Ideal)) (onTc (τ := Cert.MergeOneRefIdeal.τ) (Cert.MergeOneRefIdeal.main (F := Ideal))) ⟨m', fun _ => 0, g'⟩ (fun r => ∀ c : Dev Cert.MergeOneRefIdeal.nD,
          r.2.mem ((c.tc : Thread Cert.MergeOneRefIdeal.nD Cert.MergeOneRefIdeal.τ).loc Cert.MergeOneRefIdeal.main_v34) = v0 c
          ∧ r.2.mem ((c.tc : Thread Cert.MergeOneRefIdeal.nD Cert.MergeOneRefIdeal.τ).loc Cert.MergeOneRefIdeal.main_v50) = v1 c
          ∧ r.2.mem ((c.tc : Thread Cert.MergeOneRefIdeal.nD Cert.MergeOneRefIdeal.τ).loc Cert.MergeOneRefIdeal.main_arg0) = m' ((c.tc : Thread Cert.MergeOneRefIdeal.nD Cert.MergeOneRefIdeal.τ).loc Cert.MergeOneRefIdeal.main_arg0)
          ∧ r.2.mem ((c.tc : Thread Cert.MergeOneRefIdeal.nD Cert.MergeOneRefIdeal.τ).loc Cert.MergeOneRefIdeal.main_arg1) = m' ((c.tc : Thread Cert.MergeOneRefIdeal.nD Cert.MergeOneRefIdeal.τ).loc Cert.MergeOneRefIdeal.main_arg1)
          ∧ r.2.mem ((c.tc : Thread Cert.MergeOneRefIdeal.nD Cert.MergeOneRefIdeal.τ).loc Cert.MergeOneRefIdeal.main_arg2) = m' ((c.tc : Thread Cert.MergeOneRefIdeal.nD Cert.MergeOneRefIdeal.τ).loc Cert.MergeOneRefIdeal.main_arg2)
          ∧ r.2.mem ((c.tc : Thread Cert.MergeOneRefIdeal.nD Cert.MergeOneRefIdeal.τ).loc Cert.MergeOneRefIdeal.main_arg3) = m' ((c.tc : Thread Cert.MergeOneRefIdeal.nD Cert.MergeOneRefIdeal.τ).loc Cert.MergeOneRefIdeal.main_arg3)
          ∧ r.2.mem ((c.tc : Thread Cert.MergeOneRefIdeal.nD Cert.MergeOneRefIdeal.τ).loc Cert.MergeOneRefIdeal.main_arg4) = m' ((c.tc : Thread Cert.MergeOneRefIdeal.nD Cert.MergeOneRefIdeal.τ).loc Cert.MergeOneRefIdeal.main_arg4)
          ∧ r.2.mem ((c.tc : Thread Cert.MergeOneRefIdeal.nD Cert.MergeOneRefIdeal.τ).loc Cert.MergeOneRefIdeal.main_arg5) = m' ((c.tc : Thread Cert.MergeOneRefIdeal.nD Cert.MergeOneRefIdeal.τ).loc Cert.MergeOneRefIdeal.main_arg5)
          ∧ r.2.mem ((c.tc : Thread Cert.MergeOneRefIdeal.nD Cert.MergeOneRefIdeal.τ).loc Cert.MergeOneRefIdeal.main_arg6) = m' ((c.tc : Thread Cert.MergeOneRefIdeal.nD Cert.MergeOneRefIdeal.τ).loc Cert.MergeOneRefIdeal.main_arg6)
          ∧ r.2.mem ((c.tc : Thread Cert.MergeOneRefIdeal.nD Cert.MergeOneRefIdeal.τ).loc Cert.MergeOneRefIdeal.main_arg7) = m' ((c.tc : Thread Cert.MergeOneRefIdeal.nD Cert.MergeOneRefIdeal.τ).loc Cert.MergeOneRefIdeal.main_arg7))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v2)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v2) = v0 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v17) = v0 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def Claim : Prop :=
  ∃ (hAttn : Cert.Attn.Facts) (hAttnIdeal : Cert.AttnIdeal.Facts) (hAttnRefIdeal : Cert.AttnRefIdeal.Facts) (hAttnRef : Cert.AttnRef.Facts) (hMerge : Cert.Merge.Facts) (hMergeIdeal : Cert.MergeIdeal.Facts) (hMergeRefIdeal : Cert.MergeRefIdeal.Facts) (hMergeOne : Cert.MergeOne.Facts) (hMergeOneIdeal : Cert.MergeOneIdeal.Facts) (hMergeOneRefIdeal : Cert.MergeOneRefIdeal.Facts) (hNormProj : Cert.NormProj.Facts) (hNormProjIdeal : Cert.NormProjIdeal.Facts) (hNormProjRefIdeal : Cert.NormProjRefIdeal.Facts) (hProj : Cert.Proj.Facts) (hProjIdeal : Cert.ProjIdeal.Facts) (hProjRefIdeal : Cert.ProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_AttnRef (hAttnRef := hAttnRef)
    ∧ quiescent_Merge (hMerge := hMerge)
    ∧ quiescent_MergeIdeal (hMergeIdeal := hMergeIdeal)
    ∧ quiescent_MergeRefIdeal (hMergeRefIdeal := hMergeRefIdeal)
    ∧ quiescent_MergeOne (hMergeOne := hMergeOne)
    ∧ quiescent_MergeOneIdeal (hMergeOneIdeal := hMergeOneIdeal)
    ∧ quiescent_MergeOneRefIdeal (hMergeOneRefIdeal := hMergeOneRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ preserves_AttnRef_AttnRefIdeal
    ∧ algebraic_AttnIdeal_AttnRefIdeal_pre_finite (hAttnIdeal := hAttnIdeal) (hAttnRefIdeal := hAttnRefIdeal) (hPre_finite := hPre_finite)
    ∧ preserves_Merge_MergeIdeal
    ∧ algebraic_MergeIdeal_MergeRefIdeal (hMergeIdeal := hMergeIdeal) (hMergeRefIdeal := hMergeRefIdeal)
    ∧ preserves_MergeOne_MergeOneIdeal
    ∧ algebraic_MergeOneIdeal_MergeOneRefIdeal (hMergeOneIdeal := hMergeOneIdeal) (hMergeOneRefIdeal := hMergeOneRefIdeal)
    ∧ preserves_NormProj_NormProjIdeal
    ∧ algebraic_NormProjIdeal_NormProjRefIdeal (hNormProjIdeal := hNormProjIdeal) (hNormProjRefIdeal := hNormProjRefIdeal)
    ∧ preserves_Proj_ProjIdeal
    ∧ algebraic_ProjIdeal_ProjRefIdeal (hProjIdeal := hProjIdeal) (hProjRefIdeal := hProjRefIdeal)
-- ==== Pre_finite.lean ====
abbrev S8x2048x10752 : Shape := ⟨3, ![8, 2048, 10752]⟩
abbrev S2x8 : Shape := ⟨2, ![2, 8]⟩
abbrev S2048x16 : Shape := ⟨2, ![2048, 16]⟩
abbrev S8x2048x1280 : Shape := ⟨3, ![8, 2048, 1280]⟩
abbrev S_ : Shape := ⟨0, ![]⟩

class Facts : Prop where
  slices_S8x2048x10752_S8x2048x1280_0_0_4096 : S8x2048x10752.Slices ![0, 0, 4096] S8x2048x1280
  bcast_S_S8x2048x1280 : S_.BroadcastsInDim S8x2048x1280 (![] : Fin 0 → Fin S8x2048x1280.rank)
  bcast_S_S2x8 : S_.BroadcastsInDim S2x8 (![] : Fin 0 → Fin S2x8.rank)
  bcast_S_S2048x16 : S_.BroadcastsInDim S2048x16 (![] : Fin 0 → Fin S2048x16.rank)

variable [Facts]

def fn {F : FTy → Type} [FloatOps F] (main_arg0 : FVec F S8x2048x10752 .f32) (main_arg1 : FVec F S2x8 .f32) (main_arg2 : FVec F S2048x16 .f32) (main_arg3 : FVec F S2048x16 .f32) : IVec S8x2048x1280 1 × IVec S2x8 1 × IVec S2048x16 1 × IVec S2048x16 1 :=
  let main_v0 : FVec F S8x2048x1280 .f32 := (extractStridedSlice S8x2048x1280 ![0, 0, 4096] · slices_S8x2048x10752_S8x2048x1280_0_0_4096) main_arg0
  let main_v1 : FVec F S8x2048x1280 .f32 := Host.absf main_v0
  let main_cst : FVec F S_ .f32 := constant S_ .f32 0x7F800000#32
  let main_v2 : FVec F S8x2048x1280 .f32 := broadcastInDim S8x2048x1280 ![] bcast_S_S8x2048x1280 main_cst
  let main_v3 : IVec S8x2048x1280 1 := cmpf .olt main_v1 main_v2
  let main_v4 : FVec F S2x8 .f32 := Host.absf main_arg1
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_v7 : FVec F S2048x16 .f32 := Host.absf main_arg2
  let main_cst_1 : FVec F S_ .f32 := constant S_ .f32 0x7F800000#32
  let main_v8 : FVec F S2048x16 .f32 := broadcastInDim S2048x16 ![] bcast_S_S2048x16 main_cst_1
  let main_v9 : IVec S2048x16 1 := cmpf .olt main_v7 main_v8
  let main_v10 : FVec F S2048x16 .f32 := Host.absf main_arg3
  let main_cst_2 : FVec F S_ .f32 := constant S_ .f32 0x7F800000#32
  let main_v11 : FVec F S2048x16 .f32 := broadcastInDim S2048x16 ![] bcast_S_S2048x16 main_cst_2
  let main_v12 : IVec S2048x16 1 := cmpf .olt main_v10 main_v11
  (main_v3, main_v6, main_v9, main_v12)
-- ==== Attn.lean ====
abbrev S8x2048x10752 : Shape := ⟨3, ![8, 2048, 10752]⟩
abbrev S2x8 : Shape := ⟨2, ![2, 8]⟩
abbrev S2048x16 : Shape := ⟨2, ![2048, 16]⟩
abbrev S_ : Shape := ⟨0, ![]⟩
abbrev S2048x96 : Shape := ⟨2, ![2048, 96]⟩
abbrev S2048x112 : Shape := ⟨2, ![2048, 112]⟩
abbrev S2048x128 : Shape := ⟨2, ![2048, 128]⟩
abbrev S8x2048x1024 : Shape := ⟨3, ![8, 2048, 1024]⟩
abbrev S1x2048x512 : Shape := ⟨3, ![1, 2048, 512]⟩
abbrev S1x2048x128 : Shape := ⟨3, ![1, 2048, 128]⟩
abbrev S128x2048 : Shape := ⟨2, ![128, 2048]⟩
abbrev S1x512 : Shape := ⟨2, ![1, 512]⟩
abbrev S1x1 : Shape := ⟨2, ![1, 1]⟩
abbrev S128x128 : Shape := ⟨2, ![128, 128]⟩
abbrev S1x128x128 : Shape := ⟨3, ![1, 128, 128]⟩
abbrev S512x128 : Shape := ⟨2, ![512, 128]⟩
abbrev S384x128 : Shape := ⟨2, ![384, 128]⟩
abbrev S384x512 : Shape := ⟨2, ![384, 512]⟩
abbrev S384x1 : Shape := ⟨2, ![384, 1]⟩
abbrev S1x128 : Shape := ⟨2, ![1, 128]⟩
abbrev S512 : Shape := ⟨1, ![512]⟩
abbrev S128x384 : Shape := ⟨2, ![128, 384]⟩
abbrev S128x512 : Shape := ⟨2, ![128, 512]⟩

abbrev nBuf : Space → Nat
  | .hbm => 16
  | .vmem => 15
  | .smem => 1
  | _ => 0

abbrev bufTy : (tb : Table) → Fin (tcTables nBuf tb) → BufTy
  | .hbm, ⟨0, _⟩ => ⟨S8x2048x10752, .f32⟩
  | .hbm, ⟨1, _⟩ => ⟨S2x8, .f32⟩
  | .hbm, ⟨2, _⟩ => ⟨S2048x16, .f32⟩
  | .hbm, ⟨3, _⟩ => ⟨S2048x16, .f32⟩
  | .hbm, ⟨4, _⟩ => ⟨S_, .f32⟩
  | .hbm, ⟨5, _⟩ => ⟨S2048x96, .f32⟩
  | .hbm, ⟨6, _⟩ => ⟨S_, .f32⟩
  | .hbm, ⟨7, _⟩ => ⟨S2048x112, .f32⟩
  | .hbm, ⟨8, _⟩ => ⟨S2048x128, .f32⟩
  | .hbm, ⟨9, _⟩ => ⟨S2048x16, .f32⟩
  | .hbm, ⟨10, _⟩ => ⟨S2048x128, .f32⟩
  | .hbm, ⟨11, _⟩ => ⟨S_, .f32⟩
  | .hbm, ⟨12, _⟩ => ⟨S2048x16, .f32⟩
  | .hbm, ⟨13, _⟩ => ⟨S2048x96, .f32⟩
  | .hbm, ⟨14, _⟩ => ⟨S2048x128, .f32⟩
  | .hbm, ⟨15, _⟩ => ⟨S8x2048x1024, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x512, .f32⟩
  | .local _ .vmem, ⟨7, _⟩ => ⟨S1x2048x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x2048x512, .bf16⟩
  | .local _ .vmem, ⟨12, _⟩ => ⟨S1x2048x512, .bf16⟩
  | .local _ .vmem, ⟨13, _⟩ => ⟨S2048x128, .bf16⟩
  | .local _ .vmem, ⟨14, _⟩ => ⟨S128x2048, .bf16⟩
  | .local _ .smem, ⟨0, _⟩ => ⟨S2x8, .f32⟩
  | _, _ => ⟨S8x2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 2, 1], ![false, false, false]⟩

def k0_off1 (i : grid0.Coords) (c0_i32_7 : BitVec 32) : Fin 2 → Nat :=
  let c0 : Index := 0#32
  let arg1 : BitVec 32 := BitVec.ofNat 32 (i 1).val
  let c4_i32 : BitVec 32 := 4#32
  let v31 : BitVec 32 := Scalar.muli arg1 c4_i32
  let v32 : BitVec 32 := Scalar.addi v31 c0_i32_7
  let v33 : Index := Scalar.indexCast v32
  ![0, v33.toNat]
def k0_mult1 (i : grid0.Coords) : BitVec 32 :=
  let arg2 : BitVec 32 := BitVec.ofNat 32 (i 2).val
  let c2048_i32 : BitVec 32 := 2048#32
  let v65 : BitVec 32 := Scalar.muli arg2 c2048_i32
  let c0_i32_22 : BitVec 32 := 0#32
  let v66 : BitVec 32 := Scalar.addi v65 c0_i32_22
  v66
def k0_mult2 (i : grid0.Coords) : BitVec 32 :=
  let c1664_i32 : BitVec 32 := 1664#32
  let c0_i32_24 : BitVec 32 := 0#32
  let arg2 : BitVec 32 := BitVec.ofNat 32 (i 2).val
  let c2048_i32 : BitVec 32 := 2048#32
  let v65 : BitVec 32 := Scalar.muli arg2 c2048_i32
  let c0_i32_22 : BitVec 32 := 0#32
  let v66 : BitVec 32 := Scalar.addi v65 c0_i32_22
  let v67 : BitVec 32 := v66
  let c128_i32_23 : BitVec 32 := 128#32
  let v68 : BitVec 32 := Scalar.subi v67 c128_i32_23
  let v69 : BitVec 32 := Scalar.maxsi c0_i32_24 v68
  let v70 : BitVec 32 := Scalar.minsi c1664_i32 v69
  v70
def k0_off2 (i : grid0.Coords) (c0_i32_22 : BitVec 32) : Fin 2 → Nat :=
  let arg2 : BitVec 32 := BitVec.ofNat 32 (i 2).val
  let c2048_i32 : BitVec 32 := 2048#32
  let v65 : BitVec 32 := Scalar.muli arg2 c2048_i32
  let v66 : BitVec 32 := Scalar.addi v65 c0_i32_22
  let v67 : BitVec 32 := v66
  let v72 : Index := Scalar.indexCast v67
  let c0_25 : Index := 0#32
  ![v72.toNat, 0]
def k0_off3 (i : grid0.Coords) (c0_i32_22 : BitVec 32) : Fin 2 → Nat :=
  let c1664_i32 : BitVec 32 := 1664#32
  let c0_i32_24 : BitVec 32 := 0#32
  let arg2 : BitVec 32 := BitVec.ofNat 32 (i 2).val
  let c2048_i32 : BitVec 32 := 2048#32
  let v65 : BitVec 32 := Scalar.muli arg2 c2048_i32
  let v66 : BitVec 32 := Scalar.addi v65 c0_i32_22
  let v67 : BitVec 32 := v66
  let c128_i32_23 : BitVec 32 := 128#32
  let v68 : BitVec 32 := Scalar.subi v67 c128_i32_23
  let v69 : BitVec 32 := Scalar.maxsi c0_i32_24 v68
  let v70 : BitVec 32 := Scalar.minsi c1664_i32 v69
  let v71 : BitVec 32 := v70
  let v122 : Index := Scalar.indexCast v71
  let c0_43 : Index := 0#32
  ![v122.toNat, 0]
def k0_off4 (i : grid0.Coords) (c0_i32_22 : BitVec 32) : Fin 2 → Nat :=
  let c0_52 : Index := 0#32
  let c1664_i32 : BitVec 32 := 1664#32
  let c0_i32_24 : BitVec 32 := 0#32
  let arg2 : BitVec 32 := BitVec.ofNat 32 (i 2).val
  let c2048_i32 : BitVec 32 := 2048#32
  let v65 : BitVec 32 := Scalar.muli arg2 c2048_i32
  let v66 : BitVec 32 := Scalar.addi v65 c0_i32_22
  let v67 : BitVec 32 := v66
  let c128_i32_23 : BitVec 32 := 128#32
  let v68 : BitVec 32 := Scalar.subi v67 c128_i32_23
  let v69 : BitVec 32 := Scalar.maxsi c0_i32_24 v68
  let v70 : BitVec 32 := Scalar.minsi c1664_i32 v69
  let v71 : BitVec 32 := v70
  let v157 : Index := Scalar.indexCast v71
  ![0, v157.toNat]
def k0_mult3 (i : grid0.Coords) : BitVec 32 :=
  let arg2 : BitVec 32 := BitVec.ofNat 32 (i 2).val
  let c2048_i32_78 : BitVec 32 := 2048#32
  let v207 : BitVec 32 := Scalar.muli arg2 c2048_i32_78
  let c128_i32_79 : BitVec 32 := 128#32
  let v208 : BitVec 32 := Scalar.addi v207 c128_i32_79
  v208
def k0_mult4 (i : grid0.Coords) : BitVec 32 :=
  let c1664_i32_82 : BitVec 32 := 1664#32
  let c0_i32_81 : BitVec 32 := 0#32
  let arg2 : BitVec 32 := BitVec.ofNat 32 (i 2).val
  let c2048_i32_78 : BitVec 32 := 2048#32
  let v207 : BitVec 32 := Scalar.muli arg2 c2048_i32_78
  let c128_i32_79 : BitVec 32 := 128#32
  let v208 : BitVec 32 := Scalar.addi v207 c128_i32_79
  let v209 : BitVec 32 := v208
  let c128_i32_80 : BitVec 32 := 128#32
  let v210 : BitVec 32 := Scalar.subi v209 c128_i32_80
  let v211 : BitVec 32 := Scalar.maxsi c0_i32_81 v210
  let v212 : BitVec 32 := Scalar.minsi c1664_i32_82 v211
  v212
def k0_mult5 (i : grid0.Coords) : BitVec 32 :=
  let arg2 : BitVec 32 := BitVec.ofNat 32 (i 2).val
  let c2048_i32_141 : BitVec 32 := 2048#32
  let v349 : BitVec 32 := Scalar.muli arg2 c2048_i32_141
  let c256_i32 : BitVec 32 := 256#32
  let v350 : BitVec 32 := Scalar.addi v349 c256_i32
  v350
def k0_mult6 (i : grid0.Coords) : BitVec 32 :=
  let c1664_i32_144 : BitVec 32 := 1664#32
  let c0_i32_143 : BitVec 32 := 0#32
  let arg2 : BitVec 32 := BitVec.ofNat 32 (i 2).val
  let c2048_i32_141 : BitVec 32 := 2048#32
  let v349 : BitVec 32 := Scalar.muli arg2 c2048_i32_141
  let c256_i32 : BitVec 32 := 256#32
  let v350 : BitVec 32 := Scalar.addi v349 c256_i32
  let v351 : BitVec 32 := v350
  let c128_i32_142 : BitVec 32 := 128#32
  let v352 : BitVec 32 := Scalar.subi v351 c128_i32_142
  let v353 : BitVec 32 := Scalar.maxsi c0_i32_143 v352
  let v354 : BitVec 32 := Scalar.minsi c1664_i32_144 v353
  v354
def k0_mult7 (i : grid0.Coords) : BitVec 32 :=
  let arg2 : BitVec 32 := BitVec.ofNat 32 (i 2).val
  let c2048_i32_203 : BitVec 32 := 2048#32
  let v491 : BitVec 32 := Scalar.muli arg2 c2048_i32_203
  let c384_i32 : BitVec 32 := 384#32
  let v492 : BitVec 32 := Scalar.addi v491 c384_i32
  v492
def k0_mult8 (i : grid0.Coords) : BitVec 32 :=
  let c1664_i32_206 : BitVec 32 := 1664#32
  let c0_i32_205 : BitVec 32 := 0#32
  let arg2 : BitVec 32 := BitVec.ofNat 32 (i 2).val
  let c2048_i32_203 : BitVec 32 := 2048#32
  let v491 : BitVec 32 := Scalar.muli arg2 c2048_i32_203
  let c384_i32 : BitVec 32 := 384#32
  let v492 : BitVec 32 := Scalar.addi v491 c384_i32
  let v493 : BitVec 32 := v492
  let c128_i32_204 : BitVec 32 := 128#32
  let v494 : BitVec 32 := Scalar.subi v493 c128_i32_204
  let v495 : BitVec 32 := Scalar.maxsi c0_i32_205 v494
  let v496 : BitVec 32 := Scalar.minsi c1664_i32_206 v495
  v496
def k0_mult9 (i : grid0.Coords) : BitVec 32 :=
  let arg2 : BitVec 32 := BitVec.ofNat 32 (i 2).val
  let c2048_i32_265 : BitVec 32 := 2048#32
  let v633 : BitVec 32 := Scalar.muli arg2 c2048_i32_265
  let c512_i32 : BitVec 32 := 512#32
  let v634 : BitVec 32 := Scalar.addi v633 c512_i32
  v634
def k0_mult10 (i : grid0.Coords) : BitVec 32 :=
  let c1664_i32_268 : BitVec 32 := 1664#32
  let c0_i32_267 : BitVec 32 := 0#32
  let arg2 : BitVec 32 := BitVec.ofNat 32 (i 2).val
  let c2048_i32_265 : BitVec 32 := 2048#32
  let v633 : BitVec 32 := Scalar.muli arg2 c2048_i32_265
  let c512_i32 : BitVec 32 := 512#32
  let v634 : BitVec 32 := Scalar.addi v633 c512_i32
  let v635 : BitVec 32 := v634
  let c128_i32_266 : BitVec 32 := 128#32
  let v636 : BitVec 32 := Scalar.subi v635 c128_i32_266
  let v637 : BitVec 32 := Scalar.maxsi c0_i32_267 v636
  let v638 : BitVec 32 := Scalar.minsi c1664_i32_268 v637
  v638
def k0_mult11 (i : grid0.Coords) : BitVec 32 :=
  let arg2 : BitVec 32 := BitVec.ofNat 32 (i 2).val
  let c2048_i32_326 : BitVec 32 := 2048#32
  let v775 : BitVec 32 := Scalar.muli arg2 c2048_i32_326
  let c640_i32 : BitVec 32 := 640#32
  let v776 : BitVec 32 := Scalar.addi v775 c640_i32
  v776
def k0_mult12 (i : grid0.Coords) : BitVec 32 :=
  let c1664_i32_329 : BitVec 32 := 1664#32
  let c0_i32_328 : BitVec 32 := 0#32
  let arg2 : BitVec 32 := BitVec.ofNat 32 (i 2).val
  let c2048_i32_326 : BitVec 32 := 2048#32
  let v775 : BitVec 32 := Scalar.muli arg2 c2048_i32_326
  let c640_i32 : BitVec 32 := 640#32
  let v776 : BitVec 32 := Scalar.addi v775 c640_i32
  let v777 : BitVec 32 := v776
  let c128_i32_327 : BitVec 32 := 128#32
  let v778 : BitVec 32 := Scalar.subi v777 c128_i32_327
  let v779 : BitVec 32 := Scalar.maxsi c0_i32_328 v778
  let v780 : BitVec 32 := Scalar.minsi c1664_i32_329 v779
  v780
def k0_mult13 (i : grid0.Coords) : BitVec 32 :=
  let arg2 : BitVec 32 := BitVec.ofNat 32 (i 2).val
  let c2048_i32_387 : BitVec 32 := 2048#32
  let v917 : BitVec 32 := Scalar.muli arg2 c2048_i32_387
  let c768_i32 : BitVec 32 := 768#32
  let v918 : BitVec 32 := Scalar.addi v917 c768_i32
  v918
def k0_mult14 (i : grid0.Coords) : BitVec 32 :=
  let c1664_i32_390 : BitVec 32 := 1664#32
  let c0_i32_389 : BitVec 32 := 0#32
  let arg2 : BitVec 32 := BitVec.ofNat 32 (i 2).val
  let c2048_i32_387 : BitVec 32 := 2048#32
  let v917 : BitVec 32 := Scalar.muli arg2 c2048_i32_387
  let c768_i32 : BitVec 32 := 768#32
  let v918 : BitVec 32 := Scalar.addi v917 c768_i32
  let v919 : BitVec 32 := v918
  let c128_i32_388 : BitVec 32 := 128#32
  let v920 : BitVec 32 := Scalar.subi v919 c128_i32_388
  let v921 : BitVec 32 := Scalar.maxsi c0_i32_389 v920
  let v922 : BitVec 32 := Scalar.minsi c1664_i32_390 v921
  v922
def k0_mult15 (i : grid0.Coords) : BitVec 32 :=
  let arg2 : BitVec 32 := BitVec.ofNat 32 (i 2).val
  let c2048_i32_448 : BitVec 32 := 2048#32
  let v1059 : BitVec 32 := Scalar.muli arg2 c2048_i32_448
  let c896_i32 : BitVec 32 := 896#32
  let v1060 : BitVec 32 := Scalar.addi v1059 c896_i32
  v1060
def k0_mult16 (i : grid0.Coords) : BitVec 32 :=
  let c1664_i32_451 : BitVec 32 := 1664#32
  let c0_i32_450 : BitVec 32 := 0#32
  let arg2 : BitVec 32 := BitVec.ofNat 32 (i 2).val
  let c2048_i32_448 : BitVec 32 := 2048#32
  let v1059 : BitVec 32 := Scalar.muli arg2 c2048_i32_448
  let c896_i32 : BitVec 32 := 896#32
  let v1060 : BitVec 32 := Scalar.addi v1059 c896_i32
  let v1061 : BitVec 32 := v1060
  let c128_i32_449 : BitVec 32 := 128#32
  let v1062 : BitVec 32 := Scalar.subi v1061 c128_i32_449
  let v1063 : BitVec 32 := Scalar.maxsi c0_i32_450 v1062
  let v1064 : BitVec 32 := Scalar.minsi c1664_i32_451 v1063
  v1064
def k0_mult17 (i : grid0.Coords) : BitVec 32 :=
  let arg2 : BitVec 32 := BitVec.ofNat 32 (i 2).val
  let c2048_i32_509 : BitVec 32 := 2048#32
  let v1201 : BitVec 32 := Scalar.muli arg2 c2048_i32_509
  let c1024_i32 : BitVec 32 := 1024#32
  let v1202 : BitVec 32 := Scalar.addi v1201 c1024_i32
  v1202
def k0_mult18 (i : grid0.Coords) : BitVec 32 :=
  let c1664_i32_512 : BitVec 32 := 1664#32
  let c0_i32_511 : BitVec 32 := 0#32
  let arg2 : BitVec 32 := BitVec.ofNat 32 (i 2).val
  let c2048_i32_509 : BitVec 32 := 2048#32
  let v1201 : BitVec 32 := Scalar.muli arg2 c2048_i32_509
  let c1024_i32 : BitVec 32 := 1024#32
  let v1202 : BitVec 32 := Scalar.addi v1201 c1024_i32
  let v1203 : BitVec 32 := v1202
  let c128_i32_510 : BitVec 32 := 128#32
  let v1204 : BitVec 32 := Scalar.subi v1203 c128_i32_510
  let v1205 : BitVec 32 := Scalar.maxsi c0_i32_511 v1204
  let v1206 : BitVec 32 := Scalar.minsi c1664_i32_512 v1205
  v1206
def k0_mult19 (i : grid0.Coords) : BitVec 32 :=
  let arg2 : BitVec 32 := BitVec.ofNat 32 (i 2).val
  let c2048_i32_570 : BitVec 32 := 2048#32
  let v1343 : BitVec 32 := Scalar.muli arg2 c2048_i32_570
  let c1152_i32 : BitVec 32 := 1152#32
  let v1344 : BitVec 32 := Scalar.addi v1343 c1152_i32
  v1344
def k0_mult20 (i : grid0.Coords) : BitVec 32 :=
  let c1664_i32_573 : BitVec 32 := 1664#32
  let c0_i32_572 : BitVec 32 := 0#32
  let arg2 : BitVec 32 := BitVec.ofNat 32 (i 2).val
  let c2048_i32_570 : BitVec 32 := 2048#32
  let v1343 : BitVec 32 := Scalar.muli arg2 c2048_i32_570
  let c1152_i32 : BitVec 32 := 1152#32
  let v1344 : BitVec 32 := Scalar.addi v1343 c1152_i32
  let v1345 : BitVec 32 := v1344
  let c128_i32_571 : BitVec 32 := 128#32
  let v1346 : BitVec 32 := Scalar.subi v1345 c128_i32_571
  let v1347 : BitVec 32 := Scalar.maxsi c0_i32_572 v1346
  let v1348 : BitVec 32 := Scalar.minsi c1664_i32_573 v1347
  v1348
def k0_mult21 (i : grid0.Coords) : BitVec 32 :=
  let arg2 : BitVec 32 := BitVec.ofNat 32 (i 2).val
  let c2048_i32_631 : BitVec 32 := 2048#32
  let v1485 : BitVec 32 := Scalar.muli arg2 c2048_i32_631
  let c1280_i32 : BitVec 32 := 1280#32
  let v1486 : BitVec 32 := Scalar.addi v1485 c1280_i32
  v1486
def k0_mult22 (i : grid0.Coords) : BitVec 32 :=
  let c1664_i32_634 : BitVec 32 := 1664#32
  let c0_i32_633 : BitVec 32 := 0#32
  let arg2 : BitVec 32 := BitVec.ofNat 32 (i 2).val
  let c2048_i32_631 : BitVec 32 := 2048#32
  let v1485 : BitVec 32 := Scalar.muli arg2 c2048_i32_631
  let c1280_i32 : BitVec 32 := 1280#32
  let v1486 : BitVec 32 := Scalar.addi v1485 c1280_i32
  let v1487 : BitVec 32 := v1486
  let c128_i32_632 : BitVec 32 := 128#32
  let v1488 : BitVec 32 := Scalar.subi v1487 c128_i32_632
  let v1489 : BitVec 32 := Scalar.maxsi c0_i32_633 v1488
  let v1490 : BitVec 32 := Scalar.minsi c1664_i32_634 v1489
  v1490
def k0_mult23 (i : grid0.Coords) : BitVec 32 :=
  let arg2 : BitVec 32 := BitVec.ofNat 32 (i 2).val
  let c2048_i32_692 : BitVec 32 := 2048#32
  let v1627 : BitVec 32 := Scalar.muli arg2 c2048_i32_692
  let c1408_i32 : BitVec 32 := 1408#32
  let v1628 : BitVec 32 := Scalar.addi v1627 c1408_i32
  v1628
def k0_mult24 (i : grid0.Coords) : BitVec 32 :=
  let c1664_i32_695 : BitVec 32 := 1664#32
  let c0_i32_694 : BitVec 32 := 0#32
  let arg2 : BitVec 32 := BitVec.ofNat 32 (i 2).val
  let c2048_i32_692 : BitVec 32 := 2048#32
  let v1627 : BitVec 32 := Scalar.muli arg2 c2048_i32_692
  let c1408_i32 : BitVec 32 := 1408#32
  let v1628 : BitVec 32 := Scalar.addi v1627 c1408_i32
  let v1629 : BitVec 32 := v1628
  let c128_i32_693 : BitVec 32 := 128#32
  let v1630 : BitVec 32 := Scalar.subi v1629 c128_i32_693
  let v1631 : BitVec 32 := Scalar.maxsi c0_i32_694 v1630
  let v1632 : BitVec 32 := Scalar.minsi c1664_i32_695 v1631
  v1632
def k0_mult25 (i : grid0.Coords) : BitVec 32 :=
  let arg2 : BitVec 32 := BitVec.ofNat 32 (i 2).val
  let c2048_i32_753 : BitVec 32 := 2048#32
  let v1769 : BitVec 32 := Scalar.muli arg2 c2048_i32_753
  let c1536_i32 : BitVec 32 := 1536#32
  let v1770 : BitVec 32 := Scalar.addi v1769 c1536_i32
  v1770
def k0_mult26 (i : grid0.Coords) : BitVec 32 :=
  let c1664_i32_756 : BitVec 32 := 1664#32
  let c0_i32_755 : BitVec 32 := 0#32
  let arg2 : BitVec 32 := BitVec.ofNat 32 (i 2).val
  let c2048_i32_753 : BitVec 32 := 2048#32
  let v1769 : BitVec 32 := Scalar.muli arg2 c2048_i32_753
  let c1536_i32 : BitVec 32 := 1536#32
  let v1770 : BitVec 32 := Scalar.addi v1769 c1536_i32
  let v1771 : BitVec 32 := v1770
  let c128_i32_754 : BitVec 32 := 128#32
  let v1772 : BitVec 32 := Scalar.subi v1771 c128_i32_754
  let v1773 : BitVec 32 := Scalar.maxsi c0_i32_755 v1772
  let v1774 : BitVec 32 := Scalar.minsi c1664_i32_756 v1773
  v1774
def k0_mult27 (i : grid0.Coords) : BitVec 32 :=
  let arg2 : BitVec 32 := BitVec.ofNat 32 (i 2).val
  let c2048_i32_814 : BitVec 32 := 2048#32
  let v1911 : BitVec 32 := Scalar.muli arg2 c2048_i32_814
  let c1664_i32_815 : BitVec 32 := 1664#32
  let v1912 : BitVec 32 := Scalar.addi v1911 c1664_i32_815
  v1912
def k0_mult28 (i : grid0.Coords) : BitVec 32 :=
  let c1664_i32_818 : BitVec 32 := 1664#32
  let c0_i32_817 : BitVec 32 := 0#32
  let arg2 : BitVec 32 := BitVec.ofNat 32 (i 2).val
  let c2048_i32_814 : BitVec 32 := 2048#32
  let v1911 : BitVec 32 := Scalar.muli arg2 c2048_i32_814
  let c1664_i32_815 : BitVec 32 := 1664#32
  let v1912 : BitVec 32 := Scalar.addi v1911 c1664_i32_815
  let v1913 : BitVec 32 := v1912
  let c128_i32_816 : BitVec 32 := 128#32
  let v1914 : BitVec 32 := Scalar.subi v1913 c128_i32_816
  let v1915 : BitVec 32 := Scalar.maxsi c0_i32_817 v1914
  let v1916 : BitVec 32 := Scalar.minsi c1664_i32_818 v1915
  v1916
def k0_mult29 (i : grid0.Coords) : BitVec 32 :=
  let arg2 : BitVec 32 := BitVec.ofNat 32 (i 2).val
  let c2048_i32_876 : BitVec 32 := 2048#32
  let v2053 : BitVec 32 := Scalar.muli arg2 c2048_i32_876
  let c1792_i32 : BitVec 32 := 1792#32
  let v2054 : BitVec 32 := Scalar.addi v2053 c1792_i32
  v2054
def k0_mult30 (i : grid0.Coords) : BitVec 32 :=
  let c1664_i32_879 : BitVec 32 := 1664#32
  let c0_i32_878 : BitVec 32 := 0#32
  let arg2 : BitVec 32 := BitVec.ofNat 32 (i 2).val
  let c2048_i32_876 : BitVec 32 := 2048#32
  let v2053 : BitVec 32 := Scalar.muli arg2 c2048_i32_876
  let c1792_i32 : BitVec 32 := 1792#32
  let v2054 : BitVec 32 := Scalar.addi v2053 c1792_i32
  let v2055 : BitVec 32 := v2054
  let c128_i32_877 : BitVec 32 := 128#32
  let v2056 : BitVec 32 := Scalar.subi v2055 c128_i32_877
  let v2057 : BitVec 32 := Scalar.maxsi c0_i32_878 v2056
  let v2058 : BitVec 32 := Scalar.minsi c1664_i32_879 v2057
  v2058
def k0_mult31 (i : grid0.Coords) : BitVec 32 :=
  let arg2 : BitVec 32 := BitVec.ofNat 32 (i 2).val
  let c2048_i32_937 : BitVec 32 := 2048#32
  let v2195 : BitVec 32 := Scalar.muli arg2 c2048_i32_937
  let c1920_i32 : BitVec 32 := 1920#32
  let v2196 : BitVec 32 := Scalar.addi v2195 c1920_i32
  v2196
def k0_mult32 (i : grid0.Coords) : BitVec 32 :=
  let c1664_i32_940 : BitVec 32 := 1664#32
  let c0_i32_939 : BitVec 32 := 0#32
  let arg2 : BitVec 32 := BitVec.ofNat 32 (i 2).val
  let c2048_i32_937 : BitVec 32 := 2048#32
  let v2195 : BitVec 32 := Scalar.muli arg2 c2048_i32_937
  let c1920_i32 : BitVec 32 := 1920#32
  let v2196 : BitVec 32 := Scalar.addi v2195 c1920_i32
  let v2197 : BitVec 32 := v2196
  let c128_i32_938 : BitVec 32 := 128#32
  let v2198 : BitVec 32 := Scalar.subi v2197 c128_i32_938
  let v2199 : BitVec 32 := Scalar.maxsi c0_i32_939 v2198
  let v2200 : BitVec 32 := Scalar.minsi c1664_i32_940 v2199
  v2200
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let v0 : BitVec 32 := Scalar.addi c42_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "c" => some (((Real.sqrt 128)⁻¹ * (Real.log 2)⁻¹ : ℝ) : EReal)
  | "log2e" => some (((Real.log 2)⁻¹ : ℝ) : EReal)
  | _ => none
-- ==== AttnRef.lean ====
abbrev S8x2048x10752 : Shape := ⟨3, ![8, 2048, 10752]⟩
abbrev S2x8 : Shape := ⟨2, ![2, 8]⟩
abbrev S2048x16 : Shape := ⟨2, ![2048, 16]⟩
abbrev S8x2048x1024 : Shape := ⟨3, ![8, 2048, 1024]⟩
abbrev S8x2048x256 : Shape := ⟨3, ![8, 2048, 256]⟩
abbrev S2048x1x16 : Shape := ⟨3, ![2048, 1, 16]⟩
abbrev S8x2048x8x128 : Shape := ⟨4, ![8, 2048, 8, 128]⟩
abbrev S8x2048x8x16 : Shape := ⟨4, ![8, 2048, 8, 16]⟩
abbrev S1x2048x1x16 : Shape := ⟨4, ![1, 2048, 1, 16]⟩
abbrev S8x2048x8x32 : Shape := ⟨4, ![8, 2048, 8, 32]⟩
abbrev S8x2048x8x96 : Shape := ⟨4, ![8, 2048, 8, 96]⟩
abbrev S8x2048x2x128 : Shape := ⟨4, ![8, 2048, 2, 128]⟩
abbrev S8x2048x2x16 : Shape := ⟨4, ![8, 2048, 2, 16]⟩
abbrev S8x2048x2x32 : Shape := ⟨4, ![8, 2048, 2, 32]⟩
abbrev S8x2048x2x96 : Shape := ⟨4, ![8, 2048, 2, 96]⟩
abbrev S1x8 : Shape := ⟨2, ![1, 8]⟩
abbrev S8 : Shape := ⟨1, ![8]⟩
abbrev S8x2048x2x4x128 : Shape := ⟨5, ![8, 2048, 2, 4, 128]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2x4x1x1 : Shape := ⟨5, ![1, 2, 4, 1, 1]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x10752, .f32⟩
  | .hbm, ⟨1, _⟩ => ⟨S2x8, .f32⟩
  | .hbm, ⟨2, _⟩ => ⟨S2048x16, .f32⟩
  | .hbm, ⟨3, _⟩ => ⟨S2048x16, .f32⟩
  | .hbm, ⟨4, _⟩ => ⟨S8x2048x1024, .f32⟩
  | .hbm, ⟨5, _⟩ => ⟨S8x2048x256, .f32⟩
  | .hbm, ⟨6, _⟩ => ⟨S8x2048x256, .f32⟩
  | .hbm, ⟨7, _⟩ => ⟨S8x2048x1024, .f32⟩
  | .hbm, ⟨8, _⟩ => ⟨S2048x1x16, .f32⟩
  | .hbm, ⟨9, _⟩ => ⟨S2048x1x16, .f32⟩
  | .hbm, ⟨10, _⟩ => ⟨S8x2048x8x128, .f32⟩
  | .hbm, ⟨11, _⟩ => ⟨S8x2048x8x16, .f32⟩
  | .hbm, ⟨12, _⟩ => ⟨S8x2048x8x16, .f32⟩
  | .hbm, ⟨13, _⟩ => ⟨S1x2048x1x16, .f32⟩
  | .hbm, ⟨14, _⟩ => ⟨S8x2048x8x16, .f32⟩
  | .hbm, ⟨15, _⟩ => ⟨S8x2048x8x16, .f32⟩
  | .hbm, ⟨16, _⟩ => ⟨S1x2048x1x16, .f32⟩
  | .hbm, ⟨17, _⟩ => ⟨S8x2048x8x16, .f32⟩
  | .hbm, ⟨18, _⟩ => ⟨S8x2048x8x16, .f32⟩
  | .hbm, ⟨19, _⟩ => ⟨S8x2048x8x16, .f32⟩
  | .hbm, ⟨20, _⟩ => ⟨S1x2048x1x16, .f32⟩
  | .hbm, ⟨21, _⟩ => ⟨S8x2048x8x16, .f32⟩
  | .hbm, ⟨22, _⟩ => ⟨S8x2048x8x16, .f32⟩
  | .hbm, ⟨23, _⟩ => ⟨S1x2048x1x16, .f32⟩
  | .hbm, ⟨24, _⟩ => ⟨S8x2048x8x16, .f32⟩
  | .hbm, ⟨25, _⟩ => ⟨S8x2048x8x16, .f32⟩
  | .hbm, ⟨26, _⟩ => ⟨S8x2048x8x16, .f32⟩
  | .hbm, ⟨27, _⟩ => ⟨S8x2048x8x32, .f32⟩
  | .hbm, ⟨28, _⟩ => ⟨S8x2048x8x96, .f32⟩
  | .hbm, ⟨29, _⟩ => ⟨S8x2048x8x128, .f32⟩
  | .hbm, ⟨30, _⟩ => ⟨S8x2048x2x128, .f32⟩
  | .hbm, ⟨31, _⟩ => ⟨S8x2048x2x16, .f32⟩
  | .hbm, ⟨32, _⟩ => ⟨S8x2048x2x16, .f32⟩
  | .hbm, ⟨33, _⟩ => ⟨S1x2048x1x16, .f32⟩
  | .hbm, ⟨34, _⟩ => ⟨S8x2048x2x16, .f32⟩
  | .hbm, ⟨35, _⟩ => ⟨S8x2048x2x16, .f32⟩
  | .hbm, ⟨36, _⟩ => ⟨S1x2048x1x16, .f32⟩
  | .hbm, ⟨37, _⟩ => ⟨S8x2048x2x16, .f32⟩
  | .hbm, ⟨38, _⟩ => ⟨S8x2048x2x16, .f32⟩
  | .hbm, ⟨39, _⟩ => ⟨S8x2048x2x16, .f32⟩
  | .hbm, ⟨40, _⟩ => ⟨S1x2048x1x16, .f32⟩
  | .hbm, ⟨41, _⟩ => ⟨S8x2048x2x16, .f32⟩
  | .hbm, ⟨42, _⟩ => ⟨S8x2048x2x16, .f32⟩
  | .hbm, ⟨43, _⟩ => ⟨S1x2048x1x16, .f32⟩
  | .hbm, ⟨44, _⟩ => ⟨S8x2048x2x16, .f32⟩
  | .hbm, ⟨45, _⟩ => ⟨S8x2048x2x16, .f32⟩
  | .hbm, ⟨46, _⟩ => ⟨S8x2048x2x16, .f32⟩
  | .hbm, ⟨47, _⟩ => ⟨S8x2048x2x32, .f32⟩
  | .hbm, ⟨48, _⟩ => ⟨S8x2048x2x96, .f32⟩
  | .hbm, ⟨49, _⟩ => ⟨S8x2048x2x128, .f32⟩
  | .hbm, ⟨50, _⟩ => ⟨S8x2048x2x128, .f32⟩
  | .hbm, ⟨51, _⟩ => ⟨S1x8, .f32⟩
  | .hbm, ⟨52, _⟩ => ⟨S8, .f32⟩
  | .hbm, ⟨53, _⟩ => ⟨S8x2048x2x4x128, .f32⟩
  | .hbm, ⟨54, _⟩ => ⟨S8x2x2048x2048x4, .f32⟩
  | .hbm, ⟨55, _⟩ => ⟨S8x2x4x2048x2048, .f32⟩
  | .hbm, ⟨56, _⟩ => ⟨S_, .f32⟩
  | .hbm, ⟨57, _⟩ => ⟨S_, .f32⟩
  | .hbm, ⟨58, _⟩ => ⟨S8x2x4x2048x2048, .f32⟩
  | .hbm, ⟨59, _⟩ => ⟨S8x2x4x2048x2048, .f32⟩
  | .hbm, ⟨60, _⟩ => ⟨S2048, .i32⟩
  | .hbm, ⟨61, _⟩ => ⟨S1x2048, .i32⟩
  | .hbm, ⟨62, _⟩ => ⟨S2048x1, .i32⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .f32⟩
  | .hbm, ⟨71, _⟩ => ⟨S_, .f32⟩
  | .hbm, ⟨72, _⟩ => ⟨S8x2x4x2048x2048, .i1⟩
  | .hbm, ⟨73, _⟩ => ⟨S8x2x4x2048x2048, .f32⟩
  | .hbm, ⟨74, _⟩ => ⟨S8x2x4x2048x2048, .f32⟩
  | .hbm, ⟨75, _⟩ => ⟨S1x2x4x1x1, .f32⟩
  | .hbm, ⟨76, _⟩ => ⟨S_, .f32⟩
  | .hbm, ⟨77, _⟩ => ⟨S8x2x4x2048, .f32⟩
  | .hbm, ⟨78, _⟩ => ⟨S8x2x4x2048x1, .f32⟩
  | .hbm, ⟨79, _⟩ => ⟨S8x2x4x2048x1, .f32⟩
  | .hbm, ⟨80, _⟩ => ⟨S8x2x4x2048x1, .f32⟩
  | .hbm, ⟨81, _⟩ => ⟨S8x2x4x2048x2048, .f32⟩
  | .hbm, ⟨82, _⟩ => ⟨S8x2x4x2048x2048, .f32⟩
  | .hbm, ⟨83, _⟩ => ⟨S8x2x4x2048x2048, .f32⟩
  | .hbm, ⟨84, _⟩ => ⟨S_, .f32⟩
  | .hbm, ⟨85, _⟩ => ⟨S8x2x4x2048, .f32⟩
  | .hbm, ⟨86, _⟩ => ⟨S8x2x4x2048x1, .f32⟩
  | .hbm, ⟨87, _⟩ => ⟨S8x2x4x2048x1, .f32⟩
  | .hbm, ⟨88, _⟩ => ⟨S8x2x4x2048x1, .f32⟩
  | .hbm, ⟨89, _⟩ => ⟨S8x2x4x2048x1, .f32⟩
  | .hbm, ⟨90, _⟩ => ⟨S8x2x4x2048x1, .f32⟩
  | .hbm, ⟨91, _⟩ => ⟨S8x2x4x2048x2048, .f32⟩
  | .hbm, ⟨92, _⟩ => ⟨S8x2x4x2048x2048, .f32⟩
  | .hbm, ⟨93, _⟩ => ⟨S8x2x128x4x2048, .f32⟩
  | .hbm, ⟨94, _⟩ => ⟨S8x2048x2x4x128, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S8x2048x1024, .bf16⟩
  | _, _ => ⟨S8x2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_cst : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_c : Ref sig .tc := ⟨.hbm, 67, rfl⟩
abbrev main_v62 : Ref sig .tc := ⟨.hbm, 68, rfl⟩
abbrev main_v63 : Ref sig .tc := ⟨.hbm, 69, rfl⟩
abbrev main_cst_0 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v64 : Ref sig .tc := ⟨.hbm, 74, rfl⟩
abbrev main_v65 : Ref sig .tc := ⟨.hbm, 75, rfl⟩
abbrev main_cst_1 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_2 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Merge.lean ====
abbrev S16384x2048 : Shape := ⟨2, ![16384, 2048]⟩
abbrev S16384x10752 : Shape := ⟨2, ![16384, 10752]⟩
abbrev S16384x1024 : Shape := ⟨2, ![16384, 1024]⟩
abbrev S2x1024x2048 : Shape := ⟨3, ![2, 1024, 2048]⟩
abbrev S2x2048x2048 : Shape := ⟨3, ![2, 2048, 2048]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩
abbrev S256x512 : Shape := ⟨2, ![256, 512]⟩
abbrev S1x1024x2048 : Shape := ⟨3, ![1, 1024, 2048]⟩
abbrev S1x2048x2048 : Shape := ⟨3, ![1, 2048, 2048]⟩
abbrev S1x1024x512 : Shape := ⟨3, ![1, 1024, 512]⟩
abbrev S1024x512 : Shape := ⟨2, ![1024, 512]⟩
abbrev S2048x2048 : Shape := ⟨2, ![2048, 2048]⟩
abbrev S256 : Shape := ⟨1, ![256]⟩
abbrev S256x1 : Shape := ⟨2, ![256, 1]⟩

abbrev nBuf : Space → Nat
  | .hbm => 13
  | .vmem => 29
  | .smem => 0
  | _ => 0

abbrev bufTy : (tb : Table) → Fin (tcTables nBuf tb) → BufTy
  | .hbm, ⟨0, _⟩ => ⟨S16384x2048, .f32⟩
  | .hbm, ⟨1, _⟩ => ⟨S16384x10752, .f32⟩
  | .hbm, ⟨2, _⟩ => ⟨S16384x1024, .bf16⟩
  | .hbm, ⟨3, _⟩ => ⟨S16384x1024, .bf16⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2048, .f32⟩
  | .hbm, ⟨8, _⟩ => ⟨S2x1024x2048, .bf16⟩
  | .hbm, ⟨9, _⟩ => ⟨S2x1024x2048, .bf16⟩
  | .hbm, ⟨10, _⟩ => ⟨S2x2048x2048, .bf16⟩
  | .hbm, ⟨11, _⟩ => ⟨S1x2048, .f32⟩
  | .hbm, ⟨12, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S1x1024x2048, .bf16⟩
  | .local _ .vmem, ⟨23, _⟩ => ⟨S1x1024x2048, .bf16⟩
  | .local _ .vmem, ⟨24, _⟩ => ⟨S1x2048x2048, .bf16⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_8 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_9 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_10 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16384x2048 : Shape := ⟨2, ![16384, 2048]⟩
abbrev S16384x10752 : Shape := ⟨2, ![16384, 10752]⟩
abbrev S16384x1024 : Shape := ⟨2, ![16384, 1024]⟩
abbrev S2x1024x2048 : Shape := ⟨3, ![2, 1024, 2048]⟩
abbrev S2x2048x2048 : Shape := ⟨3, ![2, 2048, 2048]⟩
abbrev S2048 : Shape := ⟨1, ![2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S16384x3072 : Shape := ⟨2, ![16384, 3072]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x10752, .f32⟩
  | .hbm, ⟨2, _⟩ => ⟨S16384x1024, .bf16⟩
  | .hbm, ⟨3, _⟩ => ⟨S16384x1024, .bf16⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2048, .f32⟩
  | .hbm, ⟨8, _⟩ => ⟨S1x1024x2048, .f32⟩
  | .hbm, ⟨9, _⟩ => ⟨S1024x2048, .f32⟩
  | .hbm, ⟨10, _⟩ => ⟨S1x1024x2048, .f32⟩
  | .hbm, ⟨11, _⟩ => ⟨S1024x2048, .f32⟩
  | .hbm, ⟨12, _⟩ => ⟨S1x2048x2048, .f32⟩
  | .hbm, ⟨13, _⟩ => ⟨S2048x2048, .f32⟩
  | .hbm, ⟨14, _⟩ => ⟨S16384x3072, .f32⟩
  | .hbm, ⟨15, _⟩ => ⟨S16384x1024, .f32⟩
  | .hbm, ⟨16, _⟩ => ⟨S16384x1024, .f32⟩
  | .hbm, ⟨17, _⟩ => ⟨S16384x256, .f32⟩
  | .hbm, ⟨18, _⟩ => ⟨S16384x256, .f32⟩
  | .hbm, ⟨19, _⟩ => ⟨S16384x1024, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x1024, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x1024, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== MergeOne.lean ====
abbrev S16384x2048 : Shape := ⟨2, ![16384, 2048]⟩
abbrev S16384x10752 : Shape := ⟨2, ![16384, 10752]⟩
abbrev S16384x1024 : Shape := ⟨2, ![16384, 1024]⟩
abbrev S2x1024x2048 : Shape := ⟨3, ![2, 1024, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S256x1024 : Shape := ⟨2, ![256, 1024]⟩
abbrev S256x512 : Shape := ⟨2, ![256, 512]⟩
abbrev S1x1024x2048 : Shape := ⟨3, ![1, 1024, 2048]⟩
abbrev S1x2048x2048 : Shape := ⟨3, ![1, 2048, 2048]⟩
abbrev S1x1024x512 : Shape := ⟨3, ![1, 1024, 512]⟩
abbrev S1024x512 : Shape := ⟨2, ![1024, 512]⟩
abbrev S2048x2048 : Shape := ⟨2, ![2048, 2048]⟩
abbrev S256 : Shape := ⟨1, ![256]⟩
abbrev S256x1 : Shape := ⟨2, ![256, 1]⟩

abbrev nBuf : Space → Nat
  | .hbm => 16
  | .vmem => 31
  | .smem => 0
  | _ => 0

abbrev bufTy : (tb : Table) → Fin (tcTables nBuf tb) → BufTy
  | .hbm, ⟨0, _⟩ => ⟨S16384x2048, .f32⟩
  | .hbm, ⟨1, _⟩ => ⟨S16384x10752, .f32⟩
  | .hbm, ⟨2, _⟩ => ⟨S16384x1024, .bf16⟩
  | .hbm, ⟨3, _⟩ => ⟨S16384x1024, .bf16⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S2x1024x2048, .bf16⟩
  | .hbm, ⟨9, _⟩ => ⟨S2x1024x2048, .bf16⟩
  | .hbm, ⟨10, _⟩ => ⟨S2x2048x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S1x1024x2048, .bf16⟩
  | .local _ .vmem, ⟨23, _⟩ => ⟨S1x1024x2048, .bf16⟩
  | .local _ .vmem, ⟨24, _⟩ => ⟨S1x2048x2048, .bf16⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_8 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_9 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_10 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeOneRefIdeal.lean ====
abbrev S16384x2048 : Shape := ⟨2, ![16384, 2048]⟩
abbrev S16384x10752 : Shape := ⟨2, ![16384, 10752]⟩
abbrev S16384x1024 : Shape := ⟨2, ![16384, 1024]⟩
abbrev S2x1024x2048 : Shape := ⟨3, ![2, 1024, 2048]⟩
abbrev S2x2048x2048 : Shape := ⟨3, ![2, 2048, 2048]⟩
abbrev S2x2048 : Shape := ⟨2, ![2, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S16384x3072 : Shape := ⟨2, ![16384, 3072]⟩
abbrev S16384x256 : Shape := ⟨2, ![16384, 256]⟩
abbrev S_ : Shape := ⟨0, ![]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x10752, .f32⟩
  | .hbm, ⟨2, _⟩ => ⟨S16384x1024, .bf16⟩
  | .hbm, ⟨3, _⟩ => ⟨S16384x1024, .bf16⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S1x1024x2048, .f32⟩
  | .hbm, ⟨9, _⟩ => ⟨S1024x2048, .f32⟩
  | .hbm, ⟨10, _⟩ => ⟨S1x1024x2048, .f32⟩
  | .hbm, ⟨11, _⟩ => ⟨S1024x2048, .f32⟩
  | .hbm, ⟨12, _⟩ => ⟨S1x2048x2048, .f32⟩
  | .hbm, ⟨13, _⟩ => ⟨S2048x2048, .f32⟩
  | .hbm, ⟨14, _⟩ => ⟨S16384x3072, .f32⟩
  | .hbm, ⟨15, _⟩ => ⟨S16384x1024, .f32⟩
  | .hbm, ⟨16, _⟩ => ⟨S16384x1024, .f32⟩
  | .hbm, ⟨17, _⟩ => ⟨S16384x256, .f32⟩
  | .hbm, ⟨18, _⟩ => ⟨S16384x256, .f32⟩
  | .hbm, ⟨19, _⟩ => ⟨S16384x1024, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x1024, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x1024, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S2048, .f32⟩
  | .hbm, ⟨49, _⟩ => ⟨S16384x2048, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S1x2048, .f32⟩
  | .hbm, ⟨63, _⟩ => ⟨S16384x2048, .f32⟩
  | .hbm, ⟨64, _⟩ => ⟨S16384x2048, .f32⟩
  | .hbm, ⟨65, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== NormProj.lean ====
abbrev S16384x2048 : Shape := ⟨2, ![16384, 2048]⟩
abbrev S2x2048 : Shape := ⟨2, ![2, 2048]⟩
abbrev S2x2048x10752 : Shape := ⟨3, ![2, 2048, 10752]⟩
abbrev S2x1x2048 : Shape := ⟨3, ![2, 1, 2048]⟩
abbrev S16384x10752 : Shape := ⟨2, ![16384, 10752]⟩
abbrev S1024x2048 : Shape := ⟨2, ![1024, 2048]⟩
abbrev S1x1x2048 : Shape := ⟨3, ![1, 1, 2048]⟩
abbrev S1x2048x1792 : Shape := ⟨3, ![1, 2048, 1792]⟩
abbrev S1024x1792 : Shape := ⟨2, ![1024, 1792]⟩
abbrev S1024 : Shape := ⟨1, ![1024]⟩
abbrev S1024x1 : Shape := ⟨2, ![1024, 1]⟩
abbrev S1x2048 : Shape := ⟨2, ![1, 2048]⟩
abbrev S2048x1792 : Shape := ⟨2, ![2048, 1792]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x10752, .f32⟩
  | .hbm, ⟨3, _⟩ => ⟨S2x1x2048, .f32⟩
  | .hbm, ⟨4, _⟩ => ⟨S2x2048x10752, .bf16⟩
  | .hbm, ⟨5, _⟩ => ⟨S16384x10752, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormProjRefIdeal.lean ====
abbrev S16384x2048 : Shape := ⟨2, ![16384, 2048]⟩
abbrev S2x2048 : Shape := ⟨2, ![2, 2048]⟩
abbrev S2x2048x10752 : Shape := ⟨3, ![2, 2048, 10752]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x10752 : Shape := ⟨3, ![1, 2048, 10752]⟩
abbrev S2048x10752 : Shape := ⟨2, ![2048, 10752]⟩
abbrev S16384x10752 : Shape := ⟨2, ![16384, 10752]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x10752, .f32⟩
  | .hbm, ⟨3, _⟩ => ⟨S1x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S1x2048x10752, .f32⟩
  | .hbm, ⟨22, _⟩ => ⟨S2048x10752, .f32⟩
  | .hbm, ⟨23, _⟩ => ⟨S16384x10752, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proj.lean ====
abbrev S16384x2048 : Shape := ⟨2, ![16384, 2048]⟩
abbrev S2x2048x10752 : Shape := ⟨3, ![2, 2048, 10752]⟩
abbrev S16384x10752 : Shape := ⟨2, ![16384, 10752]⟩
abbrev S1024x2048 : Shape := ⟨2, ![1024, 2048]⟩
abbrev S1x2048x1792 : Shape := ⟨3, ![1, 2048, 1792]⟩
abbrev S1024x1792 : Shape := ⟨2, ![1024, 1792]⟩
abbrev S2048x1792 : Shape := ⟨2, ![2048, 1792]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x10752, .f32⟩
  | .hbm, ⟨2, _⟩ => ⟨S2x2048x10752, .bf16⟩
  | .hbm, ⟨3, _⟩ => ⟨S16384x10752, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S1024x1792, .f32⟩
  | .local _ .vmem, ⟨5, _⟩ => ⟨S1024x1792, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x2048 : Shape := ⟨2, ![16384, 2048]⟩
abbrev S2x2048x10752 : Shape := ⟨3, ![2, 2048, 10752]⟩
abbrev S1x2048x10752 : Shape := ⟨3, ![1, 2048, 10752]⟩
abbrev S2048x10752 : Shape := ⟨2, ![2048, 10752]⟩
abbrev S16384x10752 : Shape := ⟨2, ![16384, 10752]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x10752, .f32⟩
  | .hbm, ⟨2, _⟩ => ⟨S16384x2048, .f32⟩
  | .hbm, ⟨3, _⟩ => ⟨S1x2048x10752, .f32⟩
  | .hbm, ⟨4, _⟩ => ⟨S2048x10752, .f32⟩
  | .hbm, ⟨5, _⟩ => ⟨S16384x10752, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.RefFrames.lean ====
/-
  The frames of the references: each runs to the end, changes none of its arguments and, since it
  declares no semaphore, ends with every counter at zero.
-/
module

public import proofs.«01_k».proof.Defs
public import proofs.«01_k».proof.Proof.Gen.AttnRef
public import proofs.«01_k».proof.Proof.Gen.AttnRefIdeal.Run
public import proofs.«01_k».proof.Proof.Gen.MergeRefIdeal.Run
public import proofs.«01_k».proof.Proof.Gen.MergeOneRefIdeal.Run
public import proofs.«01_k».proof.Proof.Gen.NormProjRefIdeal.Run
public import proofs.«01_k».proof.Proof.Gen.ProjRefIdeal.Run
public import Idealize.ShloMosaic.Lib.Claim
public import Idealize.ShloMosaic.Lib.Quiescent

@[expose] public section

noncomputable section

namespace Cert.Proof

open Idealize.ShloMosaic Idealize.SL.Sem

/-- The reference attention, as bits, runs to the end and changes none of its arguments. -/
theorem frame_attnRef : Cert.quiescent_AttnRef := by
  intro m g _
  hlo_run
  · exact fun _ => ⟨trivial, trivial, trivial, trivial⟩
  · exact sem_eq_zero_of_no_sems rfl _

/-- The reference attention, over the extended reals, runs to the end and changes none of its
arguments. -/
theorem frame_attnRefIdeal : Cert.quiescent_AttnRefIdeal := fun m g _ =>
  (θ_run _ _ _).mono (fun r h => ⟨fun c => (h c).2, sem_eq_zero_of_no_sems rfl r.2⟩)
    (Cert.AttnRefIdeal.Value.run m g)

/-- The reference of the last merge, over the extended reals, runs to the end and changes none of its
arguments. -/
theorem frame_mergeRefIdeal : Cert.quiescent_MergeRefIdeal := fun m g _ =>
  (θ_run _ _ _).mono (fun r h => ⟨fun c => (h c).2, sem_eq_zero_of_no_sems rfl r.2⟩)
    (Cert.MergeRefIdeal.Value.run m g)

/-- The reference of the first merge, over the extended reals, runs to the end and changes none of its
arguments. -/
theorem frame_mergeOneRefIdeal : Cert.quiescent_MergeOneRefIdeal := fun m g _ =>
  (θ_run _ _ _).mono (fun r h => ⟨fun c => (h c).2.2, sem_eq_zero_of_no_sems rfl r.2⟩)
    (Cert.MergeOneRefIdeal.Value.run m g)

/-- The reference of the first projection, over the extended reals, runs to the end and changes none of its
arguments. -/
theorem frame_normProjRefIdeal : Cert.quiescent_NormProjRefIdeal := fun m g _ =>
  (θ_run _ _ _).mono (fun r h => ⟨fun c => (h c).2, sem_eq_zero_of_no_sems rfl r.2⟩)
    (Cert.NormProjRefIdeal.Value.run m g)

/-- The reference of the second projection, over the extended reals, runs to the end and changes none of its
arguments. -/
theorem frame_projRefIdeal : Cert.quiescent_ProjRefIdeal := fun m g _ =>
  (θ_run _ _ _).mono (fun r h => ⟨fun c => (h c).2, sem_eq_zero_of_no_sems rfl r.2⟩)
    (Cert.ProjRefIdeal.Value.run m g)

end Cert.Proof

end
-- ==== Proof.Block.lean ====
module

public import proofs.«01_k».proof.Proof.Gen.AttnIdeal.Frame

/-!
  One sub-block of 128 queries of the attention kernel as one function of what it loads, and the list of the pieces
  the kernel's body leaves in its output window as that function at each of the sixteen sub-blocks and four heads.
-/

@[expose] public section

set_option maxRecDepth 65536

noncomputable section

namespace Cert.Proof.Block

open Cert.AttnIdeal Cert.AttnIdeal.Gen Idealize.ShloMosaic Idealize.ShloMosaic.TcCoe Idealize.SL.Sem

variable {F : FTy → Type} [FloatOps F] [Named F]

/-- 128 rows of one head, rotated by the tables' rows. -/
def ropeRows (x : Vec F S1x128x128 .f32) (cs sl sh : Vec F S128x128 .f32) : FVec F S128x128 .bf16 :=
  truncf .bf16 (addf (addf (mulf (shapeCast S128x128 x shapeCasts_S1x128x128_S128x128) (shapeCast S128x128 cs shapeCasts_S128x128_S128x128))
      (mulf (dynamicRotate 1 112#32 none (shapeCast S128x128 x shapeCasts_S1x128x128_S128x128) rotates_S128x128_d1)
        (shapeCast S128x128 sl shapeCasts_S128x128_S128x128)))
    (mulf (dynamicRotate 1 16#32 none (shapeCast S128x128 x shapeCasts_S1x128x128_S128x128) rotates_S128x128_d1)
      (shapeCast S128x128 sh shapeCasts_S128x128_S128x128))) bitsLt_bf16_f32

/-- The band's mask: infinite where the key is at distance at most 128 from the query, its negative elsewhere. -/
def cap (q0 st : BitVec 32) : FVec F S384x128 .f32 :=
  select (cmpi .sle (absi (subi (broadcastTo S384x128 (addi (broadcast S384x1 st) (iota .tc S384x1 32 [0] iota_S384x1_d0_w32)) broadcasts_S384x1_S384x128)
      (broadcastTo S384x128 (addi (broadcast S1x128 q0) (iota .tc S1x128 32 [1] iota_S1x128_d1_w32)) broadcasts_S1x128_S384x128)))
      (broadcast S384x128 128#32))
    (broadcast S384x128 (Scalar.ofBits .f32 0x7F800000#32)) (broadcast S384x128 (Scalar.ofBits .f32 0xFF800000#32))

/-- The scores of the four heads' queries against the window's keys, capped by the band's mask. -/
def raw (q0 st : BitVec 32) (y0 y1 y2 y3 : FVec F S128x128 .bf16) (kw : Vec F S384x128 .bf16) : FVec F S384x512 .f32 :=
  minimumf (matmul dot_S384x128_S512x128_S384x512_1_1_0_0_n_n none kw
      (concatenate S512x128 0 [⟨S128x128, y0⟩, ⟨S128x128, y1⟩, ⟨S128x128, y2⟩, ⟨S128x128, y3⟩] concatenates_S128x128_S128x128_S128x128_S128x128_S512x128_d0)
      (constant S384x512 .f32 0x00000000#32))
    (concatenate S384x512 1 [⟨S384x128, cap q0 st⟩, ⟨S384x128, cap q0 st⟩, ⟨S384x128, cap q0 st⟩, ⟨S384x128, cap q0 st⟩] concatenates_S384x128_S384x128_S384x128_S384x128_S384x512_d1)

/-- The greatest of a column's scores and its sink, in base two. -/
def peak (sk : FVec F S1x512 .f32) (r : FVec F S384x512 .f32) : FVec F S1x512 .f32 :=
  maximumf (mulf (shapeCast S1x512 (multiReduction .maximumf [0] S512 r 0xFF800000#32 reduces_S384x512_S512 (.inl rfl) rfl) shapeCasts_S512_S1x512)
    (broadcast S1x512 (Named.named κ "c" 0x3E0293EE#32))) sk

/-- The exponentials of the scores. -/
def weights (sk : FVec F S1x512 .f32) (r : FVec F S384x512 .f32) : FVec F S384x512 .f32 :=
  exp2 (subf (mulf r (broadcast S384x512 (Named.named κ "c" 0x3E0293EE#32))) (broadcastTo S384x512 (peak sk r) broadcasts_S1x512_S384x512))

/-- The weighted values of the four heads' queries over the denominators, one column per query. -/
def mixed (sk : FVec F S1x512 .f32) (r : FVec F S384x512 .f32) (vw : Vec F S128x384 .bf16) : FVec F S128x512 .f32 :=
  divf (matmul dot_S128x384_S384x512_S128x512_1_0_0_1_n_n none vw (truncf .bf16 (weights sk r) bitsLt_bf16_f32) (constant S128x512 .f32 0x00000000#32))
    (broadcastTo S128x512 (addf (shapeCast S1x512 (multiReduction .add [0] S512 (weights sk r) 0x00000000#32 reduces_S384x512_S512 (.inl rfl) rfl) shapeCasts_S512_S1x512)
      (exp2 (subf sk (peak sk r)))) broadcasts_S1x512_S128x512)

/-- A head's slice of `mixed` lies inside it. -/
theorem head_slice (g : Fin 4) : S128x512.Slices ![0, 128 * g.val] S128x128 := by revert g; decide

/-- One head's rows: its columns of `mixed`, transposed and gated. -/
def gated (g : Fin 4) (o : FVec F S128x512 .f32) (z : Vec F S1x128x128 .f32) : FVec F S1x128x128 .bf16 :=
  shapeCast S1x128x128 (truncf .bf16 (mulf (transpose S128x128 [1, 0] (extractStridedSlice S128x128 ![0, 128 * g.val] o (head_slice g)) transposes_S128x128_p1_0_S128x128)
    (mulf (shapeCast S128x128 z shapeCasts_S1x128x128_S128x128) (logistic (shapeCast S128x128 z shapeCasts_S1x128x128_S128x128)))) bitsLt_bf16_f32) shapeCasts_S128x128_S1x128x128

/-- A sub-block's rectangle of one head lies inside the window. -/
theorem box_inb (sb : Fin 16) (g : Fin 4) : ∀ a, (![0, 128 * sb.val, 128 * g.val] : Fin 3 → ℕ) a + S1x128x128.size a ≤ S1x2048x512.size a := by
  revert sb g; decide

/-- The rectangle of sub-block `sb` and head `g` in a window of 2048 rows and four heads. -/
def box (sb : Fin 16) (g : Fin 4) : Rect S1x2048x512 := Rect.unit ![0, 128 * sb.val, 128 * g.val] S1x128x128.size (box_inb sb g)

/-- The position of sub-block `sb`'s first query, as the kernel's word. -/
def qword (i : grid0.Coords) (sb : Fin 16) : BitVec 32 :=
  Scalar.addi (Scalar.muli (BitVec.ofNat 32 (i 2).val) 2048#32) (BitVec.ofNat 32 (128 * sb.val))

/-- The position of its window's first key, as the kernel's word. -/
def kword (i : grid0.Coords) (sb : Fin 16) : BitVec 32 :=
  Scalar.minsi 1664#32 (Scalar.maxsi 0#32 (Scalar.subi (qword i sb) 128#32))

/-- The kernel's sub-blocks and heads, in the reverse of the order it stores them in. -/
def order : List (Fin 16 × Fin 4) :=
  [15, 14, 13, 12, 11, 10, 9, 8, 7, 6, 5, 4, 3, 2, 1, 0].flatMap fun sb => [(sb, 3), (sb, 2), (sb, 1), (sb, 0)]

section Pieces

variable (c : Dev nD) (i : grid0.Coords) (arg3 : Memref sig .tc .smem S2x8 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x512 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x2048x512 .bf16) (harg11 : arg11.IsWhole) (arg12 : Memref sig .tc .vmem S2048x128 .bf16) (harg12 : arg12.IsWhole) (arg13 : Memref sig .tc .vmem S128x2048 .bf16) (harg13 : arg13.IsWhole) (hc0 : cond0_0 i)
    (x0 : Vec F S2x8 .f32) (x1 : Vec F S1x2048x512 .f32) (x2 : Vec F S1x2048x128 .f32) (x3 : Vec F S1x2048x128 .f32) (x4 : Vec F S1x2048x512 .f32) (x5 : Vec F S2048x128 .f32) (x6 : Vec F S2048x128 .f32) (x7 : Vec F S2048x128 .f32)

/-- The rows of a table at sub-block `sb`'s queries, as loaded. -/
abbrev tabRows (arg : Memref sig .tc .vmem S2048x128 .f32) (harg : arg.IsWhole) (x : Vec F S2048x128 .f32) (sb : Fin 16) : Vec F S128x128 .f32 :=
  View.readAt (Elt F) arg.view (Rect.unit (s := S2048x128) (k0_off2 i (BitVec.ofNat 32 (128 * sb.val))) S128x128.size (k0_off2_inb i sb)).toLoadRect (harg.unread x)

/-- Sub-block `sb`'s queries of head `g`, loaded and rotated. -/
abbrev query (sb : Fin 16) (g : Fin 4) : FVec F S128x128 .bf16 :=
  ropeRows (View.readAt (Elt F) arg4.view (box sb g).toLoadRect (harg4.unread x1)) (tabRows i arg8 harg8 x5 sb) (tabRows i arg9 harg9 x6 sb) (tabRows i arg10 harg10 x7 sb)

/-- A head's sink, as loaded. -/
abbrev sinkAt (g : Fin 4) : Elt F .f32 :=
  View.readAt (Elt F) arg3.view (Rect.unit (s := S2x8) (k0_off1 i (BitVec.ofNat 32 g.val)) S1x1.size (k0_off1_inb i g)).toLoadRect (harg3.unread x0) (Shape.Idx.first (Nat.lt_of_sub_eq_succ numel1_S1x1))

/-- The four heads' sinks in base two, one column per query. -/
abbrev sinks : FVec F S1x512 .f32 :=
  k0_pay8 k0_pay5 (k0_pay6 (sinkAt i arg3 harg3 x0 0)) k0_pay7 (sinkAt i arg3 harg3 x0 1) (sinkAt i arg3 harg3 x0 2) (sinkAt i arg3 harg3 x0 3)

/-- The rotated keys of sub-block `sb`'s window, as loaded back from the scratch buffer. -/
abbrev keys (sb : Fin 16) : Vec F S384x128 .bf16 :=
  arg12.view.readCov (kernelRun0_A.sl.HS0_1 c arg5 harg5 arg8 harg8 arg9 harg9 arg10 harg10 x2 x5 x6 x7)
    (Rect.unit (s := S2048x128) (k0_off3 i (BitVec.ofNat 32 (128 * sb.val))) S384x128.size (k0_off3_inb i sb)).toLoadRect

/-- The transposed values of sub-block `sb`'s window, as loaded back from the scratch buffer. -/
abbrev values (sb : Fin 16) : Vec F S128x384 .bf16 :=
  arg13.view.readCov (kernelRun0_A.sl.HS1_1 c arg6 harg6 x3)
    (Rect.unit (s := S128x2048) (k0_off4 i (BitVec.ofNat 32 (128 * sb.val))) S128x384.size (k0_off4_inb i sb)).toLoadRect

/-- What the body stores for sub-block `sb` and head `g`. -/
def stored (sb : Fin 16) (g : Fin 4) : FVec F S1x128x128 .bf16 :=
  gated g (mixed (sinks i arg3 harg3 x0)
      (raw (qword i sb) (kword i sb) (query i arg4 harg4 arg8 harg8 arg9 harg9 arg10 harg10 x1 x5 x6 x7 sb 0)
        (query i arg4 harg4 arg8 harg8 arg9 harg9 arg10 harg10 x1 x5 x6 x7 sb 1)
        (query i arg4 harg4 arg8 harg8 arg9 harg9 arg10 harg10 x1 x5 x6 x7 sb 2)
        (query i arg4 harg4 arg8 harg8 arg9 harg9 arg10 harg10 x1 x5 x6 x7 sb 3)
        (keys c i arg5 harg5 arg8 harg8 arg9 harg9 arg10 harg10 arg12 x2 x5 x6 x7 sb))
      (values c i arg6 harg6 arg13 x3 sb))
    (View.readAt (Elt F) arg7.view (box sb g).toLoadRect (harg7.unread x4))

/-- The pieces the body leaves in its output window: every sub-block's and head's rectangle, holding what `stored` says. -/
theorem pieces_eq : (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).1 =
    order.map fun p => ⟨box p.1 p.2, stored c i arg3 harg3 arg4 harg4 arg5 harg5 arg6 harg6 arg7 harg7 arg8 harg8 arg9 harg9 arg10 harg10 arg12 arg13 x0 x1 x2 x3 x4 x5 x6 x7 p.1 p.2⟩ := by
  rfl

end Pieces

end Cert.Proof.Block

end
-- ==== Proof.BandMath.lean ====
module

public import Idealize.ShloMosaic.Lib.Pointwise

/-!
  The mathematics of one row of banded attention with a sink, free of every program: a window of `n` consecutive key
  positions that holds the row's band, a softmax over the band and the sink, and the weighted sum of the values.
  Both programs' rows are shown equal to `row`.
-/

@[expose] public section

open Idealize.ShloMosaic

namespace Band

/-- The key positions at distance at most 128 from row `r`, among the 2048 of the sequence. -/
noncomputable def near (r : ℤ) : Finset ℤ := Finset.Icc (max 0 (r - 128)) (min 2047 (r + 128))

theorem mem_near {r j : ℤ} : j ∈ near r ↔ (0 ≤ j ∧ j ≤ 2047) ∧ (r - 128 ≤ j ∧ j ≤ r + 128) := by
  simp only [near, Finset.mem_Icc, max_le_iff, le_min_iff]; omega

theorem self_mem {r : ℤ} (h : 0 ≤ r ∧ r < 2048) : r ∈ near r := mem_near.2 (by omega)

/-- The greatest score of the band, as a real number. -/
noncomputable def top (r : ℤ) (s : ℤ → ℝ) : ℝ := ((near r).sup fun j => (s j : EReal)).toReal

theorem coe_top {r : ℤ} (h : 0 ≤ r ∧ r < 2048) (s : ℤ → ℝ) :
    ((top r s : ℝ) : EReal) = (near r).sup fun j => (s j : EReal) := by
  obtain ⟨j, -, hj⟩ := Finset.exists_mem_eq_sup (near r) ⟨r, self_mem h⟩ fun j => (s j : EReal)
  rw [top, hj, EReal.toReal_coe]

/-- The scale of the scores, one over the root of the head's dimension. -/
noncomputable def scale : ℝ := (Real.sqrt 128)⁻¹

theorem scale_pos : 0 < scale := inv_pos.2 (Real.sqrt_pos.2 (by norm_num))

/-- The greatest of the scaled scores and the sink. -/
noncomputable def peak (r : ℤ) (s : ℤ → ℝ) (sk : ℝ) : ℝ := max (top r s * scale) sk

/-- The softmax's denominator: the exponentials of the band and of the sink. -/
noncomputable def den (r : ℤ) (s : ℤ → ℝ) (sk : ℝ) : ℝ :=
  (∑ j ∈ near r, Real.exp (s j * scale - peak r s sk)) + Real.exp (sk - peak r s sk)

theorem den_pos (r : ℤ) (s : ℤ → ℝ) (sk : ℝ) : 0 < den r s sk :=
  add_pos_of_nonneg_of_pos (Finset.sum_nonneg fun _ _ => (Real.exp_pos _).le) (Real.exp_pos _)

/-- One element of a row's output: the values weighted by the softmax of their scores. -/
noncomputable def row (r : ℤ) (s : ℤ → ℝ) (v : ℤ → EReal) (sk : ℝ) : EReal :=
  ∑ j ∈ near r, v j * ((Real.exp (s j * scale - peak r s sk) / den r s sk : ℝ) : EReal)

/-- A sum over a window that holds the band, of terms that vanish off the band, is the sum over the band. -/
theorem sum_window {M : Type*} [AddCommMonoid M] {n : ℕ} {base r : ℤ}
    (h : ∀ j ∈ near r, base ≤ j ∧ j < base + n) (f : Fin n → M) (g : ℤ → M)
    (hf : ∀ t : Fin n, f t = if base + (t : ℕ) ∈ near r then g (base + (t : ℕ)) else 0) :
    ∑ t, f t = ∑ j ∈ near r, g j := by
  rw [Finset.sum_congr rfl fun t _ => hf t, ← Finset.sum_filter]
  refine Finset.sum_bij (fun t _ => base + (t : ℕ)) ?_ ?_ ?_ ?_
  · intro t ht; exact (Finset.mem_filter.1 ht).2
  · intro a _ b _ hab; apply Fin.ext; omega
  · intro j hj
    obtain ⟨h1, h2⟩ := h j hj
    refine ⟨⟨(j - base).toNat, by omega⟩, Finset.mem_filter.2 ⟨Finset.mem_univ _, ?_⟩, ?_⟩
    · have : base + ((j - base).toNat : ℤ) = j := by omega
      simpa only [this] using hj
    · simp only; omega
  · intro t _; rfl

/-- The maximum over such a window, of scores that are `⊥` off the band, is the band's greatest. -/
theorem max_window {n : ℕ} {base r : ℤ} (h : ∀ j ∈ near r, base ≤ j ∧ j < base + n) (hr : 0 ≤ r ∧ r < 2048)
    (f : Fin n → EReal) (s : ℤ → ℝ)
    (hf : ∀ t : Fin n, f t = if base + (t : ℕ) ∈ near r then (s (base + (t : ℕ)) : EReal) else ⊥) :
    Finset.univ.fold max ⊥ f = (top r s : EReal) := by
  have hfold : Finset.univ.fold max ⊥ f = Finset.univ.sup f := rfl
  rw [hfold, coe_top hr]
  apply le_antisymm
  · refine Finset.sup_le fun t _ => ?_
    rw [hf t]
    split
    · exact Finset.le_sup (f := fun j => (s j : EReal)) ‹_›
    · exact bot_le
  · refine Finset.sup_le fun j hj => ?_
    obtain ⟨h1, h2⟩ := h j hj
    have e : base + ((j - base).toNat : ℤ) = j := by omega
    have := hf ⟨(j - base).toNat, by omega⟩
    simp only [e, if_pos hj] at this
    rw [← this]
    exact Finset.le_sup (Finset.mem_univ _)

theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih,
      EReal.right_distrib_of_nonneg_of_ne_top (EReal.coe_nonneg.2 hc) (EReal.coe_ne_top c)]

theorem coe_max (a b : ℝ) : max (a : EReal) (b : EReal) = ((max a b : ℝ) : EReal) :=
  (Monotone.map_max (fun _ _ h => EReal.coe_le_coe_iff.2 h)).symm

/-- A power of two of a number times the base-two logarithm of e is the number's exponential. -/
theorem two_rpow (x : ℝ) : Real.rpow 2 (x * (Real.log 2)⁻¹) = Real.exp x := by
  have h2 : Real.log 2 ≠ 0 := (Real.log_pos (by norm_num)).ne'
  rw [show Real.rpow 2 (x * (Real.log 2)⁻¹) = (2 : ℝ) ^ (x * (Real.log 2)⁻¹) from rfl, Real.rpow_def_of_pos (by norm_num)]
  congr 1; field_simp

/-- A row in base two, with the division by the denominator after the weighted sum, is `row`. -/
theorem row_base_two {n : ℕ} {base r : ℤ} (h : ∀ j ∈ near r, base ≤ j ∧ j < base + n) (hr : 0 ≤ r ∧ r < 2048)
    (f V : Fin n → EReal) (s : ℤ → ℝ) (v : ℤ → EReal) (sk : ℝ)
    (hf : ∀ t : Fin n, f t = if base + (t : ℕ) ∈ near r then (s (base + (t : ℕ)) : EReal) else ⊥)
    (hV : ∀ t : Fin n, base + (t : ℕ) ∈ near r → V t = v (base + (t : ℕ)))
    (c l m : EReal) (hc : c = ((scale * (Real.log 2)⁻¹ : ℝ) : EReal)) (hl : l = (((Real.log 2)⁻¹ : ℝ) : EReal))
    (hm : m = max (Finset.univ.fold max ⊥ f * c) (sk * l)) :
    Ideal.div (∑ t, V t * Ideal.exp2 (f t * c - m)) ((∑ t, Ideal.exp2 (f t * c - m)) + Ideal.exp2 (sk * l - m)) =
      row r s v sk := by
  have hL : 0 < (Real.log 2)⁻¹ := inv_pos.2 (Real.log_pos (by norm_num))
  have hm' : m = ((peak r s sk * (Real.log 2)⁻¹ : ℝ) : EReal) := by
    rw [hm, max_window h hr f s hf, hc, hl, ← EReal.coe_mul, ← EReal.coe_mul, coe_max, peak, max_mul_of_nonneg _ _ hL.le,
      mul_assoc]
  have he : ∀ t, Ideal.exp2 (f t * c - m) =
      if base + (t : ℕ) ∈ near r then ((Real.exp (s (base + (t : ℕ)) * scale - peak r s sk) : ℝ) : EReal) else 0 := by
    intro t
    rw [hf t, hm', hc]
    split
    · rw [← EReal.coe_mul, ← EReal.coe_sub, Ideal.exp2_coe, ← two_rpow]; congr 2; ring
    · rw [EReal.bot_mul_coe_of_pos (mul_pos scale_pos hL), EReal.bot_sub, Ideal.exp2_bot]
  have hs : Ideal.exp2 (sk * l - m) = ((Real.exp (sk - peak r s sk) : ℝ) : EReal) := by
    rw [hm', hl, ← EReal.coe_mul, ← EReal.coe_sub, Ideal.exp2_coe, ← two_rpow]; congr 2; ring
  rw [sum_window h _ (fun j => ((Real.exp (s j * scale - peak r s sk) : ℝ) : EReal)) he, hs, coe_sum, ← EReal.coe_add,
    sum_window h _ (fun j => v j * ((Real.exp (s j * scale - peak r s sk) : ℝ) : EReal)) fun t => by
      rw [he t]; split
      · rw [hV t ‹_›]
      · rw [mul_zero]]
  rw [show (∑ j ∈ near r, Real.exp (s j * scale - peak r s sk)) + Real.exp (sk - peak r s sk) = den r s sk from rfl,
    Ideal.div_coe (den_pos r s sk).ne', sum_mul_coe _ _ (one_div_pos.2 (den_pos r s sk)).le, row]
  refine Finset.sum_congr rfl fun j _ => ?_
  rw [mul_assoc, ← EReal.coe_mul, mul_one_div]

/-- A row in base e, each weight divided by the denominator before the weighted sum, is `row`. -/
theorem row_base_e {n : ℕ} {base r : ℤ} (h : ∀ j ∈ near r, base ≤ j ∧ j < base + n) (hr : 0 ≤ r ∧ r < 2048)
    (f V : Fin n → EReal) (s : ℤ → ℝ) (v : ℤ → EReal) (sk : ℝ)
    (hf : ∀ t : Fin n, f t = if base + (t : ℕ) ∈ near r then ((s (base + (t : ℕ)) * scale : ℝ) : EReal) else ⊥)
    (hV : ∀ t : Fin n, base + (t : ℕ) ∈ near r → V t = v (base + (t : ℕ)))
    (m : EReal) (hm : m = max (Finset.univ.fold max ⊥ f) sk) :
    ∑ t, Ideal.div (Ideal.exp (f t - m)) ((∑ t, Ideal.exp (f t - m)) + Ideal.exp (sk - m)) * V t = row r s v sk := by
  have htop : top r (fun j => s j * scale) = top r s * scale := by
    obtain ⟨j, hj, e⟩ := Finset.exists_mem_eq_sup (near r) ⟨r, self_mem hr⟩ fun j => (s j : EReal)
    rw [← coe_top hr s, EReal.coe_eq_coe_iff] at e
    have : ((top r (fun j => s j * scale) : ℝ) : EReal) = ((top r s * scale : ℝ) : EReal) := by
      rw [coe_top hr]
      apply le_antisymm
      · refine Finset.sup_le fun i hi => EReal.coe_le_coe_iff.2 (mul_le_mul_of_nonneg_right ?_ scale_pos.le)
        rw [← EReal.coe_le_coe_iff, coe_top hr]
        exact Finset.le_sup (f := fun j => (s j : EReal)) hi
      · rw [e]; exact Finset.le_sup (f := fun j => ((s j * scale : ℝ) : EReal)) hj
    exact EReal.coe_eq_coe_iff.1 this
  have hm' : m = ((peak r s sk : ℝ) : EReal) := by
    rw [hm, max_window h hr f (fun j => s j * scale) hf, coe_max, peak, htop]
  have he : ∀ t, Ideal.exp (f t - m) =
      if base + (t : ℕ) ∈ near r then ((Real.exp (s (base + (t : ℕ)) * scale - peak r s sk) : ℝ) : EReal) else 0 := by
    intro t
    rw [hf t, hm']
    split
    · rw [← EReal.coe_sub, Ideal.exp_coe]
    · rw [EReal.bot_sub, Ideal.exp_bot]
  have hd : (∑ t, Ideal.exp (f t - m)) + Ideal.exp (sk - m) = ((den r s sk : ℝ) : EReal) := by
    rw [sum_window h _ (fun j => ((Real.exp (s j * scale - peak r s sk) : ℝ) : EReal)) he, hm', ← EReal.coe_sub,
      Ideal.exp_coe, coe_sum, ← EReal.coe_add]; rfl
  rw [hd, row]
  refine sum_window h _ (fun j => v j * ((Real.exp (s j * scale - peak r s sk) / den r s sk : ℝ) : EReal)) fun t => ?_
  rw [Ideal.div_coe (den_pos r s sk).ne', he t]
  split
  · rw [hV t ‹_›, ← EReal.coe_mul, mul_one_div, mul_comm]
  · rw [zero_mul, zero_mul]

end Band
-- ==== Proof.KernelRow.lean ====
module

public import proofs.«01_k».proof.Proof.Block
public import proofs.«01_k».proof.Proof.BandMath
public import Idealize.ShloMosaic.Lib.Pointwise

/-!
  What one sub-block of the attention kernel computes at one query, over the extended reals: the row of banded
  attention with a sink, times the gate.
-/

@[expose] public section

set_option maxRecDepth 65536

noncomputable section

namespace Cert.Proof.Block

open Cert.AttnIdeal Cert.AttnIdeal.Gen Idealize.ShloMosaic Idealize.ShloMosaic.TcCoe Idealize.SL.Sem

/-- The column of head `g`'s query `i` in the four heads' 512 columns. -/
def lane (g : Fin 4) (i : Fin 128) : Fin 512 := ⟨128 * g.val + i.val, by omega⟩

/-- The position of sub-block `sb`'s query `i`. -/
def qpos (sb : Fin 16) (i : Fin 128) : Fin 2048 := ⟨128 * sb.val + i.val, by omega⟩

/-- The first key of sub-block `sb`'s window. -/
def first (sb : Fin 16) : ℕ := min 1664 (128 * sb.val - 128)

/-- The position of the window's key `t`. -/
def kpos (sb : Fin 16) (t : Fin 384) : Fin 2048 := ⟨first sb + t.val, by have := min_le_left 1664 (128 * sb.val - 128); unfold first; omega⟩

theorem qword_eq (i : grid0.Coords) (sb : Fin 16) : qword i sb = BitVec.ofNat 32 (128 * sb.val) := by
  have h : i 2 = (0 : Fin 1) := Subsingleton.elim (α := Fin 1) _ _
  unfold qword; rw [h]; revert sb; decide +kernel

theorem kword_eq (i : grid0.Coords) (sb : Fin 16) : kword i sb = BitVec.ofNat 32 (first sb) := by
  unfold kword; rw [qword_eq]; revert sb; decide +kernel

/-- The mask's comparison, of the signed distance as a word. -/
theorem dist_word (u : Fin 4096) : IntOp.cmpi .sle (IntOp.absi (BitVec.ofInt 32 ((u.val : ℤ) - 2048))) 128#32 =
    if |(u.val : ℤ) - 2048| ≤ 128 then 1#1 else 0#1 := by
  revert u; decide +kernel

/-- The mask's comparison says whether the window's key `t` is at distance at most 128 from query `i`. -/
theorem mask_word (c : grid0.Coords) (sb : Fin 16) (t : Fin 384) (i : Fin 128) :
    IntOp.cmpi .sle (IntOp.absi (IntOp.subi (IntOp.addi (kword c sb) (BitVec.ofNat 32 t.val)) (IntOp.addi (qword c sb) (BitVec.ofNat 32 i.val)))) 128#32 =
      if ((kpos sb t).val : ℤ) ∈ Band.near (qpos sb i).val then 1#1 else 0#1 := by
  have e : IntOp.subi (IntOp.addi (kword c sb) (BitVec.ofNat 32 t.val)) (IntOp.addi (qword c sb) (BitVec.ofNat 32 i.val)) =
      BitVec.ofInt 32 (((⟨(kpos sb t).val + 2048 - (qpos sb i).val, by omega⟩ : Fin 4096).val : ℤ) - 2048) := by
    rw [kword_eq, qword_eq]
    show BitVec.ofNat 32 _ + BitVec.ofNat 32 _ - (BitVec.ofNat 32 _ + BitVec.ofNat 32 _) = _
    rw [← BitVec.ofNat_add, ← BitVec.ofNat_add, ← BitVec.ofInt_natCast, ← BitVec.ofInt_natCast]
    rw [BitVec.sub_eq_add_neg, ← BitVec.ofInt_neg, ← BitVec.ofInt_add]
    congr 1
    simp only [kpos, qpos]
    omega
  rw [e, dist_word]
  refine if_congr ?_ rfl rfl
  rw [Band.mem_near, abs_le]
  have := (kpos sb t).isLt
  have := (qpos sb i).isLt
  simp only
  omega

/-- One row of a head, gated. -/
theorem gated_apply (g : Fin 4) (o : FVec Ideal S128x512 .f32) (z : Vec Ideal S1x128x128 .f32) (i e : Fin 128) :
    gated g o z (ix3 0 i e) = o (ix2 e (lane g i)) * (z (ix3 0 i e) * Ideal.logistic (z (ix3 0 i e))) := by
  pointwise [gated]
  rfl

theorem select_ite {α : Type} (p : Prop) [Decidable p] (x y : α) : Scalar.select (if p then 1#1 else 0#1) x y = if p then x else y := by
  split <;> rfl

theorem log2e_eq : (Named.named κ "log2e" 0x3FB8AA3B#32 : Ideal .f32) = (((Real.log 2)⁻¹ : ℝ) : EReal) :=
  IdealRules.named_const.ideal_named_scalar _ _ _ _ rfl

theorem c_eq : (Named.named κ "c" 0x3E0293EE#32 : Ideal .f32) = (((Real.sqrt 128)⁻¹ * (Real.log 2)⁻¹ : ℝ) : EReal) :=
  IdealRules.named_const.ideal_named_scalar _ _ _ _ rfl

theorem pos_inf : Ideal.ofBits .f32 0x7F800000#32 = ⊤ := by rfl
theorem neg_inf : Ideal.ofBits .f32 0xFF800000#32 = ⊥ := by rfl

/-- The capped scores: a score inside the band, minus infinity outside. -/
theorem raw_apply (c : grid0.Coords) (sb : Fin 16) (y : Fin 4 → FVec Ideal S128x128 .bf16) (kw : Vec Ideal S384x128 .bf16) (t : Fin 384) (g : Fin 4) (i : Fin 128) :
    raw (qword c sb) (kword c sb) (y 0) (y 1) (y 2) (y 3) kw (ix2 t (lane g i)) =
      if ((kpos sb t).val : ℤ) ∈ Band.near (qpos sb i).val then ∑ d : Fin 128, kw (ix2 t d) * y g (ix2 i d) else ⊥ := by
  have hm := mask_word c sb t i
  have l0 : ¬ 128 + i.val < 128 := by omega
  have l1 : ¬ 256 + i.val < 128 := by omega
  have l2 : ¬ 384 + i.val < 128 := by omega
  have l3 : ¬ 256 + i.val - 128 < 128 := by omega
  have l4 : ¬ 384 + i.val - 128 < 128 := by omega
  have l5 : ¬ 384 + i.val - 128 - 128 < 128 := by omega
  have l6 : i.val < 128 := i.isLt
  have l7 : 128 + i.val - 128 = i.val := by omega
  have l8 : 256 + i.val - 128 - 128 = i.val := by omega
  have l9 : 384 + i.val - 128 - 128 - 128 = i.val := by omega
  fin_cases g <;>
  · pointwise [raw, cap, lane]
    simp only [l0, l1, l2, l3, l4, l5, l6, l7, l8, l9, dite_false, dite_true, hm, select_ite, pos_inf, neg_inf]
    split <;> simp

theorem pay5_apply (i : Fin 512) : k0_pay5 (ix2 0 i) = BitVec.ofNat 32 (i.val / 128) := by
  pointwise [k0_pay5]
  revert i
  decide +kernel

/-- The sinks in base two. -/
theorem sinks_apply (s : Fin 4 → EReal) (g : Fin 4) (i : Fin 128) :
    k0_pay8 (F := Ideal) k0_pay5 (k0_pay6 (s 0)) k0_pay7 (s 1) (s 2) (s 3) (ix2 0 (lane g i)) = s g * (((Real.log 2)⁻¹ : ℝ) : EReal) := by
  have e : ∀ b : BitVec 32, IntOp.cmpi .eq (k0_pay5 (ix2 0 (lane g i))) b = if BitVec.ofNat 32 g.val = b then 1#1 else 0#1 := by
    intro b
    rw [pay5_apply, show (lane g i).val / 128 = g.val from by unfold lane; dsimp only; omega]
    by_cases h : BitVec.ofNat 32 g.val = b
    · rw [if_pos h, h]; simp [IntOp.cmpi]
    · rw [if_neg h]; show BitVec.ofBool (_ == b) = _; rw [beq_false_of_ne h]; rfl
  pointwise [k0_pay8, k0_pay6, k0_pay7]
  simp only [e, select_ite, log2e_eq]
  fin_cases g <;> simp

/-- Rows rotated by the tables. -/
theorem ropeRows_apply (x : Vec Ideal S1x128x128 .f32) (cs sl sh : Vec Ideal S128x128 .f32) (i d : Fin 128) :
    ropeRows x cs sl sh (ix2 i d) = x (ix3 0 i d) * cs (ix2 i d) +
      x (ix3 0 i ⟨(d.val + 128 - 112) % 128, Nat.mod_lt _ (by decide)⟩) * sl (ix2 i d) +
      x (ix3 0 i ⟨(d.val + 128 - 16) % 128, Nat.mod_lt _ (by decide)⟩) * sh (ix2 i d) := by
  pointwise [ropeRows]

theorem keys_apply (x : Vec Ideal S1x2048x128 .f32) (cs sl sh : Vec Ideal S2048x128 .f32) (i : Fin 2048) (d : Fin 128) :
    k0_pay3 x cs sl sh (ix2 i d) = x (ix3 0 i d) * cs (ix2 i d) +
      x (ix3 0 i ⟨(d.val + 128 - 112) % 128, Nat.mod_lt _ (by decide)⟩) * sl (ix2 i d) +
      x (ix3 0 i ⟨(d.val + 128 - 16) % 128, Nat.mod_lt _ (by decide)⟩) * sh (ix2 i d) := by
  pointwise [k0_pay3]

theorem values_apply (x : Vec Ideal S1x2048x128 .f32) (i : Fin 2048) (d : Fin 128) : k0_pay4 x (ix2 d i) = x (ix3 0 i d) := by
  pointwise [k0_pay4]

/-- One column of `mixed`, when its scores, values and sink are those of a row of banded attention. -/
theorem mixed_apply (sb : Fin 16) (i e : Fin 128) (c : Fin 512) (sk : FVec Ideal S1x512 .f32) (r : FVec Ideal S384x512 .f32)
    (vw : Vec Ideal S128x384 .bf16) (s : ℤ → ℝ) (v : ℤ → EReal) (S : ℝ)
    (hr : ∀ t : Fin 384, r (ix2 t c) = if ((kpos sb t).val : ℤ) ∈ Band.near (qpos sb i).val then (s (kpos sb t).val : EReal) else ⊥)
    (hv : ∀ t : Fin 384, vw (ix2 e t) = v (kpos sb t).val)
    (hs : sk (ix2 0 c) = S * (((Real.log 2)⁻¹ : ℝ) : EReal)) :
    mixed sk r vw (ix2 e c) = Band.row (qpos sb i).val s v S := by
  pointwise [mixed, weights, peak]
  rw [hs, neg_inf]
  have hk : ∀ t : Fin 384, ((kpos sb t).val : ℤ) = (first sb : ℤ) + (t.val : ℤ) := fun t => by simp [kpos]
  refine Band.row_base_two (n := 384) (base := first sb) (r := (qpos sb i).val) ?_ ?_ (fun t => r (ix2 t c)) (fun t => vw (ix2 e t)) s v S ?_ ?_ _ _ _ ?_ rfl rfl
  · intro j hj
    rw [Band.mem_near] at hj
    have := sb.isLt
    have := i.isLt
    simp only [first, qpos] at *
    omega
  · have := (qpos sb i).isLt; omega
  · intro t; rw [hr t, hk]
  · intro t _; rw [hv t, hk]
  · rw [c_eq, Band.scale]

end Cert.Proof.Block

end
-- ==== Proof.AttnSpec.lean ====
module

public import proofs.«01_k».proof.Proof.BandMath

/-!
  The windowed attention with a sink as one function of the projected stream, the sinks and the rope tables, free of
  every program: queries and keys partly rotated, one row of banded attention per head and position, times the gate.
-/

@[expose] public section

noncomputable section

namespace Spec

open Idealize.ShloMosaic

/-- A position as an index of the sequence. -/
def pos (j : ℤ) : Fin 2048 := ⟨min j.toNat 2047, by omega⟩

theorem pos_coe (j : Fin 2048) : pos (j.val : ℤ) = j :=
  Fin.ext (by have := j.isLt; simp only [pos, Int.toNat_natCast]; omega)

/-- A head's vector with its first 32 lanes rotated, sixteen pairs of lanes by the sixteen angles of its position. -/
def spin (x : Fin 128 → ℝ) (cos sin : Fin 16 → ℝ) (d : Fin 128) : ℝ :=
  if h : d.val < 16 then x d * cos ⟨d.val, h⟩ - x ⟨d.val + 16, by omega⟩ * sin ⟨d.val, h⟩
  else if h' : d.val < 32 then x d * cos ⟨d.val - 16, by omega⟩ + x ⟨d.val - 16, by omega⟩ * sin ⟨d.val - 16, by omega⟩
  else x d

section

variable (X : Fin 8 → Fin 2048 → Fin 10752 → EReal) (S : Fin 8 → EReal) (C D : Fin 2048 → Fin 16 → EReal)

/-- Head `h`'s query at position `j`, rotated. -/
def query (b : Fin 8) (j : Fin 2048) (h : Fin 8) (d : Fin 128) : ℝ :=
  spin (fun e => (X b j ⟨4096 + 128 * h.val + e.val, by omega⟩).toReal) (fun e => (C j e).toReal) (fun e => (D j e).toReal) d

/-- The key of the heads' group `k` at position `j`, rotated. -/
def key (b : Fin 8) (j : Fin 2048) (k : Fin 2) (d : Fin 128) : ℝ :=
  spin (fun e => (X b j ⟨5120 + 128 * k.val + e.val, by omega⟩).toReal) (fun e => (C j e).toReal) (fun e => (D j e).toReal) d

/-- The value of the heads' group `k` at position `j`. -/
def value (b : Fin 8) (j : Fin 2048) (k : Fin 2) (d : Fin 128) : EReal := X b j ⟨5376 + 128 * k.val + d.val, by omega⟩

/-- Head `h`'s gate. -/
def gate (b : Fin 8) (j : Fin 2048) (h : Fin 8) (d : Fin 128) : EReal := X b j ⟨5632 + 128 * h.val + d.val, by omega⟩

/-- The group of a head. -/
def group (h : Fin 8) : Fin 2 := ⟨h.val / 4, by omega⟩

/-- The output of head `h` at position `j`. -/
def attend (b : Fin 8) (j : Fin 2048) (h : Fin 8) (d : Fin 128) : EReal :=
  Band.row j.val (fun i => ∑ e : Fin 128, key X C D b (pos i) (group h) e * query X C D b j h e)
    (fun i => value X b (pos i) (group h) d) (S h).toReal * (gate X b j h d * Ideal.logistic (gate X b j h d))

/-- The output at column `e`, the heads side by side. -/
def out (b : Fin 8) (j : Fin 2048) (e : Fin 1024) : EReal :=
  attend X S C D b j ⟨e.val / 128, by omega⟩ ⟨e.val % 128, Nat.mod_lt _ (by decide)⟩

/-- The output at a column written as a head and a lane of it. -/
theorem out_of_val (b b' : Fin 8) (j j' : Fin 2048) (h : Fin 8) (d : Fin 128) (e : Fin 1024) (hb : b'.val = b.val) (hj : j'.val = j.val)
    (he : e.val = 128 * h.val + d.val) : out X S C D b' j' e = attend X S C D b j h d := by
  obtain rfl := Fin.ext hb
  obtain rfl := Fin.ext hj
  unfold out
  congr 1
  · exact Fin.ext (by simp only; omega)
  · exact Fin.ext (by simp only; omega)

/-- The numbers a score is made of are real. -/
structure Finite : Prop where
  qk : ∀ b j (e : Fin 10752), 4096 ≤ e.val → e.val < 5376 → X b j e = ((X b j e).toReal : EReal)
  sink : ∀ h, S h = ((S h).toReal : EReal)
  cos : ∀ j d, C j d = ((C j d).toReal : EReal)
  sin : ∀ j d, D j d = ((D j d).toReal : EReal)

end

end Spec

end
-- ==== Proof.KernelBlock.lean ====
module

public import proofs.«01_k».proof.Proof.KernelRow
public import proofs.«01_k».proof.Proof.AttnSpec
public import Idealize.ShloMosaic.Lib.Pipeline.Value
public import Idealize.ShloMosaic.Lib.Pipeline.ValueKit.Tiles

/-!
  What the attention kernel's body leaves in its output window at one grid point, over the extended reals, when the
  sinks, queries, keys and tables of the point's blocks are real numbers.
-/

@[expose] public section

set_option maxRecDepth 65536

noncomputable section

namespace Cert.Proof.Block

open Spec (pos pos_coe)
open Cert.AttnIdeal Cert.AttnIdeal.Gen Idealize.ShloMosaic Idealize.ShloMosaic.TcCoe Idealize.SL.Sem

/-- The lane sixteen further round. -/
def up (d : Fin 128) : Fin 128 := ⟨(d.val + 128 - 112) % 128, Nat.mod_lt _ (by decide)⟩

/-- The lane sixteen back round. -/
def down (d : Fin 128) : Fin 128 := ⟨(d.val + 128 - 16) % 128, Nat.mod_lt _ (by decide)⟩

/-- One head's vector rotated by a row of the three tables. -/
def rot (x cs sl sh : Fin 128 → ℝ) (d : Fin 128) : ℝ := x d * cs d + x (up d) * sl d + x (down d) * sh d

/-- The real numbers in one grid point's blocks. -/
structure Reals where
  S : Fin 8 → ℝ
  Q : Fin 2048 → Fin 512 → ℝ
  K : Fin 2048 → Fin 128 → ℝ
  cs : Fin 2048 → Fin 128 → ℝ
  sl : Fin 2048 → Fin 128 → ℝ
  sh : Fin 2048 → Fin 128 → ℝ

/-- The score of query `r` of head `g` against the key at position `j`. -/
def Reals.score (R : Reals) (g : Fin 4) (r : Fin 2048) (j : ℤ) : ℝ :=
  ∑ d : Fin 128, rot (R.K (pos j)) (R.cs (pos j)) (R.sl (pos j)) (R.sh (pos j)) d *
    rot (fun e => R.Q r (lane g e)) (R.cs r) (R.sl r) (R.sh r) d

section Stored

variable (c : Dev nD) (i : grid0.Coords) (arg3 : Memref sig .tc .smem S2x8 .f32) (harg3 : arg3.IsWhole) (arg4 : Memref sig .tc .vmem S1x2048x512 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x512 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x2048x512 .bf16) (harg11 : arg11.IsWhole) (arg12 : Memref sig .tc .vmem S2048x128 .bf16) (harg12 : arg12.IsWhole) (arg13 : Memref sig .tc .vmem S128x2048 .bf16) (harg13 : arg13.IsWhole) (hc0 : cond0_0 i)
    (x0 : Vec Ideal S2x8 .f32) (x1 : Vec Ideal S1x2048x512 .f32) (x2 : Vec Ideal S1x2048x128 .f32) (x3 : Vec Ideal S1x2048x128 .f32) (x4 : Vec Ideal S1x2048x512 .f32) (x5 : Vec Ideal S2048x128 .f32) (x6 : Vec Ideal S2048x128 .f32) (x7 : Vec Ideal S2048x128 .f32)

theorem off2_eq (sb : Fin 16) : k0_off2 i (BitVec.ofNat 32 (128 * sb.val)) = ![128 * sb.val, 0] := by
  show ![(qword i sb).toNat, 0] = _
  rw [qword_eq]; revert sb; decide +kernel

theorem off3_eq (sb : Fin 16) : k0_off3 i (BitVec.ofNat 32 (128 * sb.val)) = ![first sb, 0] := by
  show ![(kword i sb).toNat, 0] = _
  rw [kword_eq]; revert sb; decide +kernel

theorem off4_eq (sb : Fin 16) : k0_off4 i (BitVec.ofNat 32 (128 * sb.val)) = ![0, first sb] := by
  show ![0, (kword i sb).toNat] = _
  rw [kword_eq]; revert sb; decide +kernel

theorem off1_eq (g : Fin 4) : k0_off1 i (BitVec.ofNat 32 g.val) = ![0, 4 * (i 1).val + g.val] := by
  have : ∀ (k : Fin 2) (g : Fin 4), (Scalar.indexCast (Scalar.addi (Scalar.muli (BitVec.ofNat 32 k.val) 4#32) (BitVec.ofNat 32 g.val)) : Index).toNat = 4 * k.val + g.val := by decide +kernel
  show ![0, (Scalar.indexCast (Scalar.addi (Scalar.muli (BitVec.ofNat 32 (i 1).val) 4#32) (BitVec.ofNat 32 g.val)) : Index).toNat] = _
  rw [this (i 1) g]

/-- The head of the grid point's group. -/
def head (g : Fin 4) : Fin 8 := ⟨4 * (i 1).val + g.val, by have : (i 1).val < 2 := (i 1).isLt; omega⟩

/-- A box of a window, as loaded. -/
theorem box_load (arg : Memref sig .tc .vmem S1x2048x512 .f32) (harg : arg.IsWhole) (x : Vec Ideal S1x2048x512 .f32) (sb : Fin 16) (g : Fin 4) (r e : Fin 128) :
    View.readAt (Elt Ideal) arg.view (box sb g).toLoadRect (harg.unread x) (ix3 0 r e) = x (ix3 0 (qpos sb r) (lane g e)) := by
  rw [View.readAt_eq_ld, harg.read_unread]
  exact View.ld_unit_apply_of x _ _ _ _ _ (by intro a; fin_cases a <;> rfl)

/-- A table's rows, as loaded. -/
theorem tab_load (arg : Memref sig .tc .vmem S2048x128 .f32) (harg : arg.IsWhole) (x : Vec Ideal S2048x128 .f32) (sb : Fin 16) (r d : Fin 128) :
    tabRows i arg harg x sb (ix2 r d) = x (ix2 (qpos sb r) d) := by
  rw [tabRows, View.readAt_eq_ld, harg.read_unread]
  exact View.ld_unit_apply_of x _ _ _ _ _ (by intro a; refine Eq.trans ?_ (congrArg (· + _) (congrFun (off2_eq i sb) a)).symm; fin_cases a <;> simp [qpos])

/-- A head's sink, as loaded. -/
theorem sink_load (g : Fin 4) : sinkAt i arg3 harg3 x0 g = x0 (ix2 0 (head i g)) := by
  rw [sinkAt, View.readAt_eq_ld, harg3.read_unread]
  exact View.ld_unit_apply_of x0 _ _ _ _ _ (by intro a; refine Eq.trans ?_ (congrArg (· + _) (congrFun (off1_eq i g) a)).symm; fin_cases a <;> simp [head, Shape.Idx.first])

theorem zero2 : (![0, 0] : Fin 2 → ℕ) = fun _ => 0 := by decide
theorem zero3 : (![0, 0, 0] : Fin 3 → ℕ) = fun _ => 0 := by decide

/-- The window's rotated keys. -/
theorem keys_load (sb : Fin 16) (t : Fin 384) (d : Fin 128) :
    keys c i arg5 harg5 arg8 harg8 arg9 harg9 arg10 harg10 arg12 x2 x5 x6 x7 sb (ix2 t d) = k0_pay3 x2 x5 x6 x7 (ix2 (kpos sb t) d) := by
  unfold keys kernelRun0_A.sl.HS0_1
  rw [View.readCov_eq_canon_ld _ _ _ (fun y => ⟨_, List.mem_singleton_self _, View.mem_set_unit_zero zero2 inb_S2048x128_S2048x128_0_0 y⟩), View.canon_unit_zero zero2]
  simp only [View.readAt_eq_ld, harg5.read_unread, harg8.read_unread, harg9.read_unread, harg10.read_unread]
  rw [View.ld_unit_zero zero3, View.ld_unit_zero zero2, View.ld_unit_zero zero2, View.ld_unit_zero zero2]
  exact View.ld_unit_apply_of _ _ _ _ _ _ (by intro a; refine Eq.trans ?_ (congrArg (· + _) (congrFun (off3_eq i sb) a)).symm; fin_cases a <;> simp [kpos])

/-- The window's values. -/
theorem values_load (sb : Fin 16) (t : Fin 384) (e : Fin 128) :
    values c i arg6 harg6 arg13 x3 sb (ix2 e t) = x3 (ix3 0 (kpos sb t) e) := by
  unfold values kernelRun0_A.sl.HS1_1
  rw [View.readCov_eq_canon_ld _ _ _ (fun y => ⟨_, List.mem_singleton_self _, View.mem_set_unit_zero zero2 inb_S128x2048_S128x2048_0_0 y⟩), View.canon_unit_zero zero2]
  simp only [View.readAt_eq_ld, harg6.read_unread]
  rw [View.ld_unit_zero zero3]
  refine Eq.trans ?_ (values_apply x3 (kpos sb t) e)
  exact View.ld_unit_apply_of _ _ _ _ _ _ (by intro a; refine Eq.trans ?_ (congrArg (· + _) (congrFun (off4_eq i sb) a)).symm; fin_cases a <;> simp [kpos])

/-- A rotated query. -/
theorem query_load (sb : Fin 16) (g : Fin 4) (r d : Fin 128) :
    query i arg4 harg4 arg8 harg8 arg9 harg9 arg10 harg10 x1 x5 x6 x7 sb g (ix2 r d) =
      x1 (ix3 0 (qpos sb r) (lane g d)) * x5 (ix2 (qpos sb r) d) + x1 (ix3 0 (qpos sb r) (lane g (up d))) * x6 (ix2 (qpos sb r) d) +
        x1 (ix3 0 (qpos sb r) (lane g (down d))) * x7 (ix2 (qpos sb r) d) :=
  (ropeRows_apply _ _ _ _ r d).trans
    (congrArg₂ (· + ·) (congrArg₂ (· + ·)
      (congrArg₂ (· * ·) (box_load arg4 harg4 x1 sb g r d) (tab_load i arg8 harg8 x5 sb r d))
      (congrArg₂ (· * ·) (box_load arg4 harg4 x1 sb g r (up d)) (tab_load i arg9 harg9 x6 sb r d)))
      (congrArg₂ (· * ·) (box_load arg4 harg4 x1 sb g r (down d)) (tab_load i arg10 harg10 x7 sb r d)))

/-- What the body leaves at row `r` and column `e` of its output window. -/
def Reals.out (R : Reals) (h : Fin 4 → Fin 8) (x3 : Vec Ideal S1x2048x128 .f32) (x4 : Vec Ideal S1x2048x512 .f32) (r : Fin 2048) (g : Fin 4) (e : Fin 128) : EReal :=
  Band.row r.val (R.score g r) (fun j => x3 (ix3 0 (pos j) e)) (R.S (h g)) * (x4 (ix3 0 r (lane g e)) * Ideal.logistic (x4 (ix3 0 r (lane g e))))

variable (R : Reals) (hS : ∀ h, x0 (ix2 0 h) = (R.S h : EReal)) (hQ : ∀ j e, x1 (ix3 0 j e) = (R.Q j e : EReal)) (hK : ∀ j d, x2 (ix3 0 j d) = (R.K j d : EReal))
  (hcs : ∀ j d, x5 (ix2 j d) = (R.cs j d : EReal)) (hsl : ∀ j d, x6 (ix2 j d) = (R.sl j d : EReal)) (hsh : ∀ j d, x7 (ix2 j d) = (R.sh j d : EReal))

include hS hQ hK hcs hsl hsh

theorem stored_apply (sb : Fin 16) (g : Fin 4) (r e : Fin 128) :
    stored c i arg3 harg3 arg4 harg4 arg5 harg5 arg6 harg6 arg7 harg7 arg8 harg8 arg9 harg9 arg10 harg10 arg12 arg13 x0 x1 x2 x3 x4 x5 x6 x7 sb g (ix3 0 r e) =
      R.out (head i) x3 x4 (qpos sb r) g e := by
  refine (gated_apply g _ _ r e).trans (congrArg₂ (· * ·) ?_ (congrArg (fun z => z * Ideal.logistic z) (box_load arg7 harg7 x4 sb g r e)))
  refine mixed_apply sb r e (lane g r) _ _ _ (R.score g (qpos sb r)) _ _ ?_ ?_ ?_
  · intro t
    rw [raw_apply i sb (fun g => query i arg4 harg4 arg8 harg8 arg9 harg9 arg10 harg10 x1 x5 x6 x7 sb g)]
    refine if_congr Iff.rfl ?_ rfl
    rw [Reals.score, pos_coe, ← Band.coe_sum]
    refine Finset.sum_congr rfl fun d _ => ?_
    rw [keys_load, keys_apply, query_load]
    simp only [hQ, hK, hcs, hsl, hsh, rot, up, down, EReal.coe_add, EReal.coe_mul]
  · intro t
    rw [values_load, pos_coe]
  · rw [sinks, sinks_apply (fun g => sinkAt i arg3 harg3 x0 g), sink_load, hS]

/-- The body's output window, at an index. -/
theorem window_apply (r : Fin 2048) (g : Fin 4) (e : Fin 128) :
    out0_A_8 c i arg3 harg3 arg4 harg4 arg5 harg5 arg6 harg6 arg7 harg7 arg8 harg8 arg9 harg9 arg10 harg10 arg11 harg11 arg12 harg12 arg13 harg13 hc0 x0 x1 x2 x3 x4 x5 x6 x7 (ix3 0 r (lane g e)) =
      R.out (head i) x3 x4 r g e := by
  have hr := r.isLt
  let sb : Fin 16 := ⟨r.val / 128, by omega⟩
  let x : Fin 128 := ⟨r.val % 128, Nat.mod_lt _ (by decide)⟩
  have hrow : qpos sb x = r := Fin.ext (by simp only [qpos, sb, x]; omega)
  let G : S1x2048x512.Idx → EReal := fun y =>
    R.out (head i) x3 x4 (y 1) ⟨(y 2).val / 128, by have : (y 2).val < 512 := (y 2).isLt; omega⟩ ⟨(y 2).val % 128, Nat.mod_lt _ (by decide)⟩
  unfold out0_A_8
  rw [pieces_eq, View.read_writes_junk_apply_eq_canon]
  refine (View.canon_apply_of_pieces (Val := Elt Ideal) (e := .bf16) G _ ?_ _ ?_).trans ?_
  · intro p hp y
    obtain ⟨⟨sb, g⟩, -, rfl⟩ := List.mem_map.1 hp
    have hy : y = ix3 0 (y 1) (y 2) := by funext a; fin_cases a; exacts [Subsingleton.elim (α := Fin 1) _ _, rfl, rfl]
    rw [hy]
    have h1 : (box sb g).emb (ix3 0 (y 1) (y 2)) = ix3 0 (qpos sb (y 1)) (lane g (y 2)) := by
      funext a; refine Fin.ext ((Rect.idx_unit_val _ _ _ _ a).trans ?_); fin_cases a <;> rfl
    refine (stored_apply c i arg3 harg3 arg4 harg4 arg5 harg5 arg6 harg6 arg7 harg7 arg8 harg8 arg9 harg9 arg10 harg10 arg12 arg13 x0 x1 x2 x3 x4 x5 x6 x7 R hS hQ hK hcs hsl hsh sb g (y 1) (y 2)).trans ?_
    refine Eq.trans ?_ (congrArg G h1).symm
    have h2 : (y 2).val < 128 := (y 2).isLt
    show R.out (head i) x3 x4 (qpos sb (y 1)) g (y 2) = R.out (head i) x3 x4 (qpos sb (y 1)) ⟨(128 * g.val + (y 2).val) / 128, _⟩ ⟨(128 * g.val + (y 2).val) % 128, _⟩
    congr 1
    · exact Fin.ext (by simp only; omega)
    · exact Fin.ext (by simp only; omega)
  · refine ⟨⟨box sb g, _⟩, List.mem_map.2 ⟨(sb, g), ?_, rfl⟩, ?_⟩
    · exact (by decide : ∀ (sb : Fin 16) (g : Fin 4), (sb, g) ∈ order) sb g
    · refine (Rect.mem_set_unit (inb := box_inb sb g)).2 fun a => ?_
      have he := e.isLt
      fin_cases a <;> simp [sb, lane] <;> omega
  · show R.out (head i) x3 x4 r ⟨(128 * g.val + e.val) / 128, _⟩ ⟨(128 * g.val + e.val) % 128, _⟩ = _
    have he := e.isLt
    congr 1
    · exact Fin.ext (by simp only; omega)
    · exact Fin.ext (by simp only; omega)

end Stored

end Cert.Proof.Block

end
-- ==== Proof.KernelArray.lean ====
module

public import proofs.«01_k».proof.Proof.KernelBlock
public import proofs.«01_k».proof.Proof.Gen.AttnIdeal.Value
public import Idealize.ShloMosaic.Lib.Pipeline.ValueKit
public import Idealize.ShloMosaic.Lib.Claim

/-!
  The attention kernel's output array after the run, over the extended reals.
-/

@[expose] public section

set_option maxRecDepth 65536

noncomputable section

namespace Cert.Proof.Block

open Spec (pos pos_coe)
open Cert.AttnIdeal Cert.AttnIdeal.Gen Idealize.ShloMosaic Idealize.ShloMosaic.TcCoe Idealize.SL.Sem

variable (m : (ℓ : Loc nD τ sig) → Buf (Elt Ideal) ℓ) (c : Dev nD)

/-- Where each window's block lies at a grid point. -/
theorem idx : ∀ t : Fin cfg0.N, win0_0.index t = ![0, 0] ∧ win0_1.index t = ![(grid0.coords t 0).val, 0, 8 + (grid0.coords t 1).val] ∧
    win0_2.index t = ![(grid0.coords t 0).val, 0, 40 + (grid0.coords t 1).val] ∧ win0_3.index t = ![(grid0.coords t 0).val, 0, 42 + (grid0.coords t 1).val] ∧
    win0_4.index t = ![(grid0.coords t 0).val, 0, 11 + (grid0.coords t 1).val] ∧ win0_5.index t = ![0, 0] ∧ win0_6.index t = ![0, 0] ∧ win0_7.index t = ![0, 0] ∧
    win0_8.index t = ![(grid0.coords t 0).val, 0, (grid0.coords t 1).val] := by decide +kernel

/-- The projected stream. -/
abbrev X (b : Fin 8) (j : Fin 2048) (e : Fin 10752) : EReal := m ((c : Thread nD τ).loc main_arg0) (ix3 b j e)
/-- The sinks. -/
abbrev S (h : Fin 8) : EReal := m ((c : Thread nD τ).loc main_arg1) (ix2 0 h)
/-- The cosines. -/
abbrev C (j : Fin 2048) (d : Fin 16) : EReal := m ((c : Thread nD τ).loc main_arg2) (ix2 j d)
/-- The sines. -/
abbrev D (j : Fin 2048) (d : Fin 16) : EReal := m ((c : Thread nD τ).loc main_arg3) (ix2 j d)

/-- The batch element of a grid point. -/
def bat (t : Fin cfg0.N) : Fin 8 := ⟨(grid0.coords t 0).val, (grid0.coords t 0).isLt⟩
/-- The group of heads of a grid point. -/
def grp (t : Fin cfg0.N) : Fin 2 := ⟨(grid0.coords t 1).val, (grid0.coords t 1).isLt⟩

theorem sink_blk (t : Fin cfg0.N) (h : Fin 8) : iblk m c 0 t (ix2 0 h) = S m c h := by
  blk_ext [iblk, V_main_arg1, idx t]

theorem query_blk (t : Fin cfg0.N) (j : Fin 2048) (e : Fin 512) :
    iblk m c 1 t (ix3 0 j e) = X m c (bat t) j ⟨4096 + 512 * (grp t).val + e.val, by omega⟩ := by
  blk_ext [iblk, V_main_arg0, idx t, bat, grp]

theorem key_blk (t : Fin cfg0.N) (j : Fin 2048) (e : Fin 128) :
    iblk m c 2 t (ix3 0 j e) = X m c (bat t) j ⟨5120 + 128 * (grp t).val + e.val, by omega⟩ := by
  blk_ext [iblk, V_main_arg0, idx t, bat, grp]

theorem value_blk (t : Fin cfg0.N) (j : Fin 2048) (e : Fin 128) :
    iblk m c 3 t (ix3 0 j e) = X m c (bat t) j ⟨5376 + 128 * (grp t).val + e.val, by omega⟩ := by
  blk_ext [iblk, V_main_arg0, idx t, bat, grp]

theorem gate_blk (t : Fin cfg0.N) (j : Fin 2048) (e : Fin 512) :
    iblk m c 4 t (ix3 0 j e) = X m c (bat t) j ⟨5632 + 512 * (grp t).val + e.val, by omega⟩ := by
  blk_ext [iblk, V_main_arg0, idx t, bat, grp]

/-- The cosines' table: the sixteen cosines twice over, then ones. -/
theorem cos_entry : V m c main_v2 = concatenate S2048x128 1 [⟨S2048x16, m ((c : Thread nD τ).loc main_arg2)⟩, ⟨S2048x16, m ((c : Thread nD τ).loc main_arg2)⟩, ⟨S2048x96, broadcastInDim S2048x96 ![] bcast_S_S2048x96 (constant (F := Ideal) S_ .f32 0x3F800000#32)⟩] concatenates_S2048x16_S2048x16_S2048x96_S2048x128_d1 := by
  unfold_abbrev_sides
  after_results
  dsimp only [Matrix.cons_val]
  rfl

/-- The second sines' table: sixteen zeros, the sines, then zeros. -/
theorem hi_entry : V m c main_v7 = concatenate S2048x128 1 [⟨S2048x16, broadcastInDim S2048x16 ![] bcast_S_S2048x16 (constant (F := Ideal) S_ .f32 0x00000000#32)⟩, ⟨S2048x16, m ((c : Thread nD τ).loc main_arg3)⟩, ⟨S2048x96, extractStridedSlice S2048x96 ![0, 16] (broadcastInDim S2048x112 ![] bcast_S_S2048x112 (constant (F := Ideal) S_ .f32 0x00000000#32)) slices_S2048x112_S2048x96_0_16⟩] concatenates_S2048x16_S2048x16_S2048x96_S2048x128_d1 := by
  unfold_abbrev_sides
  after_results
  dsimp only [Matrix.cons_val]
  rfl

theorem cos_blk (t : Fin cfg0.N) (j : Fin 2048) (d : Fin 128) :
    iblk m c 5 t (ix2 j d) = if h : d.val < 16 then C m c j ⟨d.val, h⟩ else if h : d.val < 32 then C m c j ⟨d.val - 16, by omega⟩ else 1 := by
  have e : iblk m c 5 t (ix2 j d) = V m c main_v2 (ix2 j d) := by blk_ext [iblk, idx t]
  rw [e, cos_entry]
  pointwise []
  by_cases h1 : d.val < 16
  · simp only [dif_pos h1]
  · by_cases h2 : d.val < 32
    · simp only [dif_neg h1, dif_pos h2, dif_pos (show d.val - 16 < 16 by omega)]
    · simp only [dif_neg h1, dif_neg h2, dif_neg (show ¬ d.val - 16 < 16 by omega)]

theorem lo_blk (t : Fin cfg0.N) (j : Fin 2048) (d : Fin 128) :
    iblk m c 6 t (ix2 j d) = if h : d.val < 16 then - D m c j ⟨d.val, h⟩ else 0 := by
  have e : iblk m c 6 t (ix2 j d) = V m c main_v4 (ix2 j d) := by blk_ext [iblk, idx t]
  rw [e]
  entry_read
  pointwise []

theorem hi_blk (t : Fin cfg0.N) (j : Fin 2048) (d : Fin 128) :
    iblk m c 7 t (ix2 j d) = if h : d.val < 16 then 0 else if h : d.val < 32 then D m c j ⟨d.val - 16, by omega⟩ else 0 := by
  have e : iblk m c 7 t (ix2 j d) = V m c main_v7 (ix2 j d) := by blk_ext [iblk, idx t]
  rw [e, hi_entry]
  pointwise []
  by_cases h1 : d.val < 16
  · simp only [dif_pos h1]
  · by_cases h2 : d.val < 32
    · simp only [dif_neg h1, dif_pos h2, dif_pos (show d.val - 16 < 16 by omega)]
    · simp only [dif_neg h1, dif_neg h2, dif_neg (show ¬ d.val - 16 < 16 by omega)]

/-- Rotation by the three tables is the rotation of sixteen pairs of lanes. -/
theorem rot_eq (x : Fin 128 → ℝ) (co si : Fin 16 → ℝ) (d : Fin 128) :
    rot x (fun d => if h : d.val < 16 then co ⟨d.val, h⟩ else if h : d.val < 32 then co ⟨d.val - 16, by omega⟩ else 1)
      (fun d => if h : d.val < 16 then - si ⟨d.val, h⟩ else 0)
      (fun d => if h : d.val < 16 then 0 else if h : d.val < 32 then si ⟨d.val - 16, by omega⟩ else 0) d = Spec.spin x co si d := by
  unfold rot Spec.spin
  by_cases h1 : d.val < 16
  · simp only [dif_pos h1]
    rw [show up d = ⟨d.val + 16, by omega⟩ from Fin.ext (by simp only [up]; omega)]
    ring
  · by_cases h2 : d.val < 32
    · simp only [dif_neg h1, dif_pos h2]
      rw [show down d = ⟨d.val - 16, by omega⟩ from Fin.ext (by simp only [down]; omega)]
      ring
    · simp only [dif_neg h1, dif_neg h2]
      ring

/-- The real numbers of a grid point's blocks. -/
def reals (t : Fin cfg0.N) : Reals where
  S h := (S m c h).toReal
  Q j e := (X m c (bat t) j ⟨4096 + 512 * (grp t).val + e.val, by omega⟩).toReal
  K j d := (X m c (bat t) j ⟨5120 + 128 * (grp t).val + d.val, by omega⟩).toReal
  cs j d := if h : d.val < 16 then (C m c j ⟨d.val, h⟩).toReal else if h : d.val < 32 then (C m c j ⟨d.val - 16, by omega⟩).toReal else 1
  sl j d := if h : d.val < 16 then - (D m c j ⟨d.val, h⟩).toReal else 0
  sh j d := if h : d.val < 16 then 0 else if h : d.val < 32 then (D m c j ⟨d.val - 16, by omega⟩).toReal else 0

/-- The head of a grid point's lane group. -/
def headAt (t : Fin cfg0.N) (g : Fin 4) : Fin 8 := ⟨4 * (grp t).val + g.val, by omega⟩

/-- A score of a grid point is the rotated key times the rotated query. -/
theorem score_eq (t : Fin cfg0.N) (g : Fin 4) (r : Fin 2048) :
    (reals m c t).score g r = fun i => ∑ e : Fin 128, Spec.key (X m c) (C m c) (D m c) (bat t) (pos i) (Spec.group (headAt t g)) e *
      Spec.query (X m c) (C m c) (D m c) (bat t) r (headAt t g) e := by
  funext i
  refine Finset.sum_congr rfl fun e _ => congrArg₂ (· * ·)
    ((rot_eq ((reals m c t).K (pos i)) (fun d => (C m c (pos i) d).toReal) (fun d => (D m c (pos i) d).toReal) e).trans ?_)
    ((rot_eq (fun d => (reals m c t).Q r (lane g d)) (fun d => (C m c r d).toReal) (fun d => (D m c r d).toReal) e).trans ?_)
  · refine congrArg (fun f => Spec.spin f _ _ e) (funext fun d => congrArg (fun y => (X m c (bat t) (pos i) y).toReal) (Fin.ext ?_))
    simp only [Spec.group, headAt]; omega
  · refine congrArg (fun f => Spec.spin f _ _ e) (funext fun d => congrArg (fun y => (X m c (bat t) r y).toReal) (Fin.ext ?_))
    simp only [lane, headAt]; omega

/-- What a grid point leaves at row `r`, lane `e` of its head `g`. -/
theorem out_eq (t : Fin cfg0.N) (r : Fin 2048) (g : Fin 4) (e : Fin 128) :
    (reals m c t).out (head (grid0.coords t)) (iblk m c 3 t) (iblk m c 4 t) r g e = Spec.attend (X m c) (S m c) (C m c) (D m c) (bat t) r (headAt t g) e := by
  have hz : iblk m c 4 t (ix3 0 r (lane g e)) = Spec.gate (X m c) (bat t) r (headAt t g) e := by
    rw [gate_blk]
    exact congrArg (X m c (bat t) r) (Fin.ext (by simp only [lane, headAt]; omega))
  have hv : (fun j => iblk m c 3 t (ix3 0 (pos j) e)) = fun i => Spec.value (X m c) (bat t) (pos i) (Spec.group (headAt t g)) e := by
    funext j
    rw [value_blk]
    exact congrArg (X m c (bat t) (pos j)) (Fin.ext (by simp only [Spec.group, headAt]; omega))
  unfold Reals.out Spec.attend
  rw [score_eq, hz, hv]
  rfl

/-- The output array after the run is the windowed attention of the arguments. -/
theorem array_eq (hfin : Spec.Finite (X m c) (S m c) (C m c) (D m c)) :
    (dats m 0 c).arrAt 8 cfg0.N = fun i => Spec.out (X m c) (S m c) (C m c) (D m c) (i 0) (i 1) (i 2) := by
  refine (dats m 0 c).arrAt_eq_of_covers 8 _ (by decide +kernel) fun t hf y => ?_
  have hy2 : (y 2).val < 512 := (y 2).isLt
  let r : Fin 2048 := ⟨(y 1).val, (y 1).isLt⟩
  let g : Fin 4 := ⟨(y 2).val / 128, by omega⟩
  let e : Fin 128 := ⟨(y 2).val % 128, Nat.mod_lt _ (by decide)⟩
  have hy : y = ix3 0 r (lane g e) := by
    funext a; fin_cases a
    exacts [Subsingleton.elim (α := Fin 1) _ _, rfl, Fin.ext (by show (y 2).val = 128 * ((y 2).val / 128) + (y 2).val % 128; omega)]
  refine Eq.trans ?_ (b := Spec.attend (X m c) (S m c) (C m c) (D m c) (bat t) r (headAt t g) e) ?_
  · rw [← out_eq, hy, after0_8]
    unfold outsAt0
    refine window_apply (R := reals m c t) (hS := ?_) (hQ := ?_) (hK := ?_) (hcs := ?_) (hsl := ?_) (hsh := ?_) (r := r) (g := g) (e := e) ..
    · exact fun h => (sink_blk m c t h).trans (hfin.sink h)
    · exact fun j e => (query_blk m c t j e).trans (hfin.qk _ _ _ (by simp only; omega) (by simp only; omega))
    · exact fun j e => (key_blk m c t j e).trans (hfin.qk _ _ _ (by simp only; omega) (by simp only; omega))
    · intro j d
      rw [cos_blk]
      simp only [reals]
      split_ifs
      exacts [hfin.cos _ _, hfin.cos _ _, EReal.coe_one.symm]
    · intro j d
      rw [lo_blk]
      simp only [reals]
      split_ifs
      exacts [(congrArg Neg.neg (hfin.sin _ _)).trans (EReal.coe_neg _).symm, EReal.coe_zero.symm]
    · intro j d
      rw [hi_blk]
      simp only [reals]
      split_ifs
      exacts [EReal.coe_zero.symm, hfin.sin _ _, EReal.coe_zero.symm]
  · have h0 : ((((cfg0.win 8).blk t).view.emb y) 0 : ℕ) = (bat t).val := by
      have : (y 0).val < 1 := (y 0).isLt
      blk_simp [idx t, bat]
    have h1 : ((((cfg0.win 8).blk t).view.emb y) 1 : ℕ) = r.val := by blk_simp [idx t, r]
    have h2 : ((((cfg0.win 8).blk t).view.emb y) 2 : ℕ) = 128 * (headAt t g).val + e.val := by
      blk_simp [idx t]
      show (grid0.coords t 1).val * 512 + (y 2).val = 128 * (4 * (grid0.coords t 1).val + (y 2).val / 128) + (y 2).val % 128
      omega
    exact (Spec.out_of_val (X m c) (S m c) (C m c) (D m c) _ _ _ _ _ _ _ h0 h1 h2).symm

end Cert.Proof.Block

end
-- ==== Proof.RefArgs.lean ====
module

public import proofs.«01_k».proof.Proof.AttnSpec
public import proofs.«01_k».proof.Proof.Gen.AttnRefIdeal.Read
public import Idealize.ShloMosaic.Lib.Pointwise

/-!
  The arguments of the reference attention, and the two smallest readings that the others share.
-/

@[expose] public section

set_option maxRecDepth 65536

noncomputable section

namespace Cert.Proof.Ref

open Spec (pos pos_coe)
open Cert.AttnRefIdeal Cert.AttnRefIdeal.Read Idealize.ShloMosaic

variable (x0 : (⟨S8x2048x10752, .f32⟩ : BufTy).Contents (Elt Ideal)) (x1 : (⟨S2x8, .f32⟩ : BufTy).Contents (Elt Ideal))
  (x2 x3 : (⟨S2048x16, .f32⟩ : BufTy).Contents (Elt Ideal))

/-- The projected stream. -/
abbrev X (b : Fin 8) (j : Fin 2048) (e : Fin 10752) : EReal := x0 (ix3 b j e)
/-- The sinks. -/
abbrev S (h : Fin 8) : EReal := x1 (ix2 0 h)
/-- The cosines, or the sines. -/
abbrev T (x : (⟨S2048x16, .f32⟩ : BufTy).Contents (Elt Ideal)) (j : Fin 2048) (d : Fin 16) : EReal := x (ix2 j d)

/-- The head of a group's member. -/
def headOf (k : Fin 2) (g : Fin 4) : Fin 8 := ⟨k.val * 4 + g.val, by omega⟩

/-- A sink, spread over the groups and their members. -/
theorem sink_apply (k : Fin 2) (g : Fin 4) : val_main_v65 (F := Ideal) x1 (ix5 0 k g 0 0) = S x1 (headOf k g) := by
  pointwise [val_main_v65, val_main_v48, val_main_v47]
  rfl

end Cert.Proof.Ref

end
-- ==== Proof.RefScore.lean ====
module

public import proofs.«01_k».proof.Proof.RefArgs
public import proofs.«01_k».proof.Proof.KernelRow

/-!
  The reference attention's scores: rotated queries against rotated keys, inside the band.
-/

@[expose] public section

set_option maxRecDepth 65536

noncomputable section

namespace Cert.Proof.Ref

open Spec (pos pos_coe)
open Cert.AttnRefIdeal Cert.AttnRefIdeal.Read Idealize.ShloMosaic

variable (x0 : (⟨S8x2048x10752, .f32⟩ : BufTy).Contents (Elt Ideal)) (x1 : (⟨S2x8, .f32⟩ : BufTy).Contents (Elt Ideal))
  (x2 x3 : (⟨S2048x16, .f32⟩ : BufTy).Contents (Elt Ideal))

/-- The band's comparison of two positions. -/
theorem band_word (q s : Fin 2048) : IntOp.cmpi .sle (IntOp.absi (IntOp.subi (BitVec.ofNat 32 s.val) (BitVec.ofNat 32 q.val))) 128#32 =
    if (s.val : ℤ) ∈ Band.near q.val then 1#1 else 0#1 := by
  have e : IntOp.subi (BitVec.ofNat 32 s.val) (BitVec.ofNat 32 q.val) =
      BitVec.ofInt 32 (((⟨s.val + 2048 - q.val, by omega⟩ : Fin 4096).val : ℤ) - 2048) := by
    show BitVec.ofNat 32 _ - BitVec.ofNat 32 _ = _
    rw [← BitVec.ofInt_natCast, ← BitVec.ofInt_natCast, BitVec.sub_eq_add_neg, ← BitVec.ofInt_neg, ← BitVec.ofInt_add]
    congr 1
    simp only
    omega
  rw [e, Block.dist_word]
  refine if_congr ?_ rfl rfl
  rw [Band.mem_near, abs_le]
  have := s.isLt
  have := q.isLt
  simp only
  omega

/-- The root of the heads' width. -/
theorem root_eq : Ideal.sqrt (Ideal.ofBits FTy.f32 0x43000000#32) = ((Real.sqrt 128 : ℝ) : EReal) := by
  rw [show Ideal.ofBits FTy.f32 0x43000000#32 = ((128 : ℝ) : EReal) by simp [Ideal.ofBits, Ideal.ieee, -EReal.coe_mul]; norm_num, Ideal.sqrt_coe, if_neg (by norm_num)]

variable (hfin : Spec.Finite (X x0) (S x1) (T x2) (T x3))

section
include hfin

variable {x0 x1 x2 x3} in
/-- A query's or a key's element is the real number it stands for. -/
theorem lift (b : Fin 8) (j : Fin 2048) (e e' : Fin 10752) (h : e.val = e'.val) (h1 : 4096 ≤ e.val) (h2 : e.val < 5376) :
    x0 (ix3 b j e) = ((X x0 b j e').toReal : EReal) := by
  obtain rfl := Fin.ext h
  exact hfin.qk b j e h1 h2

/-- The rotated query. -/
theorem query_apply (b : Fin 8) (j : Fin 2048) (h : Fin 8) (d : Fin 128) :
    val_main_v25 (F := Ideal) x0 x2 x3 (ix4 b j h d) = (Spec.query (X x0) (T x2) (T x3) b j h d : EReal) := by
  unfold val_main_v25 val_main_v24 val_main_v23 val_main_v22 val_main_v15 val_main_v6 val_main_v0
  pointwise [val_main_v21, val_main_v20, val_main_v19, val_main_v18, val_main_v17, val_main_v16, val_main_v14, val_main_v13, val_main_v12, val_main_v11, val_main_v10, val_main_v9, val_main_v8, val_main_v7, val_main_v5, val_main_v4, val_main_v6, val_main_v0]
  unfold Spec.query Spec.spin
  have hd := d.isLt
  have hh := h.isLt
  by_cases h1 : d.val < 16
  · simp only [dif_pos h1, dif_pos (show d.val < 32 by omega), EReal.coe_sub, EReal.coe_mul]
    exact congrArg₂ (· - ·) (congrArg₂ (· * ·) (lift hfin b j _ _ (by simp only; omega) (by simp only; omega) (by simp only; omega)) (hfin.cos _ _))
      (congrArg₂ (· * ·) (lift hfin b j _ _ (by simp only; omega) (by simp only; omega) (by simp only; omega)) (hfin.sin _ _))
  · by_cases h2 : d.val < 32
    · simp only [dif_neg h1, dif_pos h2, EReal.coe_add, EReal.coe_mul]
      exact congrArg₂ (· + ·) (congrArg₂ (· * ·) (lift hfin b j _ _ (by simp only; omega) (by simp only; omega) (by simp only; omega)) (hfin.cos _ _))
        (congrArg₂ (· * ·) (lift hfin b j _ _ (by simp only; omega) (by simp only; omega) (by simp only; omega)) (hfin.sin _ _))
    · simp only [dif_neg h1, dif_neg h2]
      exact lift hfin b j _ _ (by simp only; omega) (by simp only; omega) (by simp only; omega)

/-- The rotated key. -/
theorem key_apply (b : Fin 8) (j : Fin 2048) (h : Fin 2) (d : Fin 128) :
    val_main_v45 (F := Ideal) x0 x2 x3 (ix4 b j h d) = (Spec.key (X x0) (T x2) (T x3) b j h d : EReal) := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v5, val_main_v4, val_main_v1]
  unfold Spec.key Spec.spin
  have hd := d.isLt
  have hh := h.isLt
  by_cases h1 : d.val < 16
  · simp only [dif_pos h1, dif_pos (show d.val < 32 by omega), EReal.coe_sub, EReal.coe_mul]
    exact congrArg₂ (· - ·) (congrArg₂ (· * ·) (lift hfin b j _ _ (by simp only; omega) (by simp only; omega) (by simp only; omega)) (hfin.cos _ _))
      (congrArg₂ (· * ·) (lift hfin b j _ _ (by simp only; omega) (by simp only; omega) (by simp only; omega)) (hfin.sin _ _))
  · by_cases h2 : d.val < 32
    · simp only [dif_neg h1, dif_pos h2, EReal.coe_add, EReal.coe_mul]
      exact congrArg₂ (· + ·) (congrArg₂ (· * ·) (lift hfin b j _ _ (by simp only; omega) (by simp only; omega) (by simp only; omega)) (hfin.cos _ _))
        (congrArg₂ (· * ·) (lift hfin b j _ _ (by simp only; omega) (by simp only; omega) (by simp only; omega)) (hfin.sin _ _))
    · simp only [dif_neg h1, dif_neg h2]
      exact lift hfin b j _ _ (by simp only; omega) (by simp only; omega) (by simp only; omega)

/-- The score of query `q` of head `k`, `g` against the key at `s`: the product of both over the root inside the band. -/
theorem score_apply (b : Fin 8) (k : Fin 2) (g : Fin 4) (q s : Fin 2048) : val_main_v64 (F := Ideal) x0 x2 x3 (ix5 b k g q s) =
    if (s.val : ℤ) ∈ Band.near q.val then
      (((∑ e : Fin 128, Spec.key (X x0) (T x2) (T x3) b s k e * Spec.query (X x0) (T x2) (T x3) b q (headOf k g) e) * Band.scale : ℝ) : EReal) else ⊥ := by
  pointwise [val_main_v64, val_main_call0_v1, val_main_call0_v2, val_main_call0_v0, val_main_cst_0, val_main_v63, val_main_v62, val_main_c, val_main_v61, val_main_v60, val_main_v59, val_main_v58, val_main_v57, val_main_v56, val_main_v55, val_main_v54, val_main_v53, val_main_v52, val_main_v51, val_main_v50, val_main_v49, val_main_cst]
  rw [band_word, Block.select_ite, root_eq, Ideal.div_coe (Real.sqrt_pos.2 (by norm_num)).ne']
  refine if_congr Iff.rfl ?_ Block.neg_inf
  rw [EReal.coe_mul, ← Band.coe_sum]
  refine congrArg₂ (· * ·) (Finset.sum_congr rfl fun e _ => ?_) (by rw [one_div]; rfl)
  rw [key_apply x0 x1 x2 x3 hfin, EReal.coe_mul]
  exact congrArg _ (query_apply x0 x1 x2 x3 hfin b q (headOf k g) e)

end

end Cert.Proof.Ref

end
-- ==== Proof.RefRow.lean ====
module

public import proofs.«01_k».proof.Proof.RefArgs

/-!
  The reference attention's softmax with a sink, and the sum of the values that it weighs.
-/

@[expose] public section

set_option maxRecDepth 65536

noncomputable section

namespace Cert.Proof.Ref

open Spec (pos pos_coe)
open Cert.AttnRefIdeal Cert.AttnRefIdeal.Read Idealize.ShloMosaic

variable (x0 : (⟨S8x2048x10752, .f32⟩ : BufTy).Contents (Elt Ideal)) (x1 : (⟨S2x8, .f32⟩ : BufTy).Contents (Elt Ideal))
  (x2 x3 : (⟨S2048x16, .f32⟩ : BufTy).Contents (Elt Ideal))

/-- The largest score of a row. -/
def peak (b : Fin 8) (k : Fin 2) (g : Fin 4) (q : Fin 2048) : EReal :=
  Finset.univ.fold max (⊥ : EReal) fun s => (val_main_v64 (F := Ideal) x0 x2 x3 (ix5 b k g q s) : EReal)

/-- The largest score of a row, the sink's with it. -/
def top (b : Fin 8) (k : Fin 2) (g : Fin 4) (q : Fin 2048) : EReal := max (peak x0 x2 x3 b k g q) (S x1 (headOf k g))

theorem max_apply (b : Fin 8) (k : Fin 2) (g : Fin 4) (q : Fin 2048) : val_main_v66 (F := Ideal) x0 x2 x3 (ix4 b k g q) = peak x0 x2 x3 b k g q := by
  unfold val_main_v66 peak
  generalize val_main_v64 (F := Ideal) x0 x2 x3 = y
  pointwise [val_main_cst_1]
  rfl

theorem top_apply (b : Fin 8) (k : Fin 2) (g : Fin 4) (q : Fin 2048) : val_main_v69 (F := Ideal) x0 x1 x2 x3 (ix5 b k g q 0) = top x0 x1 x2 x3 b k g q := by
  have e1 : idx_main_v67 (ix5 b k g q 0) = ix4 b k g q := by funext a; fin_cases a <;> rfl
  have e2 : idx_main_v68 (ix5 b k g q 0) = ix5 0 k g 0 0 := by funext a; fin_cases a <;> rfl
  rw [val_main_v69_apply, val_main_v67_apply, val_main_v68_apply, e1, e2, max_apply, sink_apply]
  rfl

theorem exp_apply (b : Fin 8) (k : Fin 2) (g : Fin 4) (q s : Fin 2048) : val_main_v72 (F := Ideal) x0 x1 x2 x3 (ix5 b k g q s) =
    Ideal.exp (val_main_v64 (F := Ideal) x0 x2 x3 (ix5 b k g q s) - top x0 x1 x2 x3 b k g q) := by
  rw [← top_apply]
  unfold val_main_v72 val_main_v71 val_main_v70
  generalize val_main_v64 (F := Ideal) x0 x2 x3 = y
  generalize val_main_v69 (F := Ideal) x0 x1 x2 x3 = z
  pointwise []

theorem den_apply (b : Fin 8) (k : Fin 2) (g : Fin 4) (q : Fin 2048) : val_main_v78 (F := Ideal) x0 x1 x2 x3 (ix5 b k g q 0) =
    (∑ s, Ideal.exp (val_main_v64 (F := Ideal) x0 x2 x3 (ix5 b k g q s) - top x0 x1 x2 x3 b k g q)) + Ideal.exp (S x1 (headOf k g) - top x0 x1 x2 x3 b k g q) := by
  have he := fun s => exp_apply x0 x1 x2 x3 b k g q s
  rw [← top_apply] at he
  have hs := Finset.sum_congr (s₁ := Finset.univ) rfl fun s _ => (he s).symm
  rw [← top_apply, ← sink_apply]
  refine Eq.trans ?_ (congrArg (· + _) hs.symm)
  clear hs
  unfold val_main_v78 val_main_v77 val_main_v76 val_main_v75 val_main_v74 val_main_v73
  generalize val_main_v65 (F := Ideal) x1 = w
  clear he
  generalize val_main_v72 (F := Ideal) x0 x1 x2 x3 = y
  generalize val_main_v69 (F := Ideal) x0 x1 x2 x3 = z
  pointwise [val_main_cst_2]

theorem sum_apply (b : Fin 8) (k : Fin 2) (d : Fin 128) (g : Fin 4) (q : Fin 2048) : val_main_v81 (F := Ideal) x0 x1 x2 x3 (ix5 b k d g q) =
    ∑ s, Spec.value (X x0) b s k d * Ideal.div (val_main_v72 (F := Ideal) x0 x1 x2 x3 (ix5 b k g q s)) (val_main_v78 (F := Ideal) x0 x1 x2 x3 (ix5 b k g q 0)) := by
  unfold val_main_v81 val_main_v80 val_main_v79
  generalize val_main_v72 (F := Ideal) x0 x1 x2 x3 = y
  generalize val_main_v78 (F := Ideal) x0 x1 x2 x3 = z
  pointwise [val_main_v46, val_main_v2]
  refine Finset.sum_congr rfl fun s _ => congrArg (· * _) (congrArg (fun e => x0 (ix3 b s e)) (Fin.ext ?_))
  simp only
  omega

end Cert.Proof.Ref

end
-- ==== Proof.RefValue.lean ====
module

public import proofs.«01_k».proof.Proof.RefScore
public import proofs.«01_k».proof.Proof.RefRow

/-!
  What the reference attention computes, over the extended reals: the windowed attention of its arguments.
-/

@[expose] public section

set_option maxRecDepth 65536

noncomputable section

namespace Cert.Proof.Ref

open Spec (pos pos_coe)
open Cert.AttnRefIdeal Cert.AttnRefIdeal.Read Idealize.ShloMosaic

variable (x0 : (⟨S8x2048x10752, .f32⟩ : BufTy).Contents (Elt Ideal)) (x1 : (⟨S2x8, .f32⟩ : BufTy).Contents (Elt Ideal))
  (x2 x3 : (⟨S2048x16, .f32⟩ : BufTy).Contents (Elt Ideal))

variable (hfin : Spec.Finite (X x0) (S x1) (T x2) (T x3))

include hfin in
/-- The reference's result is the windowed attention of its arguments. -/
theorem out_apply (b : Fin 8) (j : Fin 2048) (e : Fin 1024) : val_main_v86 (F := Ideal) x0 x1 x2 x3 (ix3 b j e) = Spec.out (X x0) (S x1) (T x2) (T x3) b j e := by
  unfold val_main_v86 val_main_v85 val_main_v83 val_main_v82
  have hs := sum_apply x0 x1 x2 x3 b ⟨e.val / 512, by omega⟩ ⟨e.val % 128, Nat.mod_lt _ (by decide)⟩ ⟨e.val / 128 % 4, Nat.mod_lt _ (by decide)⟩ j
  simp only [exp_apply, den_apply] at hs
  generalize val_main_v81 (F := Ideal) x0 x1 x2 x3 = y at hs ⊢
  pointwise [val_main_v84, val_main_call1_v0, val_main_call1_v1, val_main_call1_v2, val_main_call1_v3, val_main_call1_v4, val_main_call1_v5, val_main_call1_cst, val_main_call1_cst_0, val_main_v3]
  rw [hs]
  have hh : headOf ⟨e.val / 512, by omega⟩ ⟨e.val / 128 % 4, Nat.mod_lt _ (by decide)⟩ = ⟨e.val / 128, by omega⟩ := Fin.ext (by simp only [headOf]; omega)
  have hk : Spec.group ⟨e.val / 128, by omega⟩ = ⟨e.val / 512, by omega⟩ := Fin.ext (by simp only [Spec.group]; omega)
  have hg : Spec.gate (X x0) b j ⟨e.val / 128, by omega⟩ ⟨e.val % 128, Nat.mod_lt _ (by decide)⟩ = x0 (ix3 b j ⟨5632 + e.val, by omega⟩) :=
    congrArg (fun i => x0 (ix3 b j i)) (Fin.ext (by simp only; omega))
  unfold Spec.out Spec.attend
  rw [hg, hk]
  refine congrArg₂ (· * ·) ?_ rfl
  have hsk : S x1 ⟨e.val / 128, by omega⟩ = ((S x1 ⟨e.val / 128, by omega⟩).toReal : EReal) := hfin.sink _
  unfold top peak
  rw [hh]
  have hb := Band.row_base_e (n := 2048) (base := 0) (r := j.val) (fun i hi => by have := Band.mem_near.1 hi; omega) (by have := j.isLt; omega)
    (fun s => val_main_v64 (F := Ideal) x0 x2 x3 (ix5 b ⟨e.val / 512, by omega⟩ ⟨e.val / 128 % 4, Nat.mod_lt _ (by decide)⟩ j s))
    (fun s => Spec.value (X x0) b s ⟨e.val / 512, by omega⟩ ⟨e.val % 128, Nat.mod_lt _ (by decide)⟩)
    (fun i => ∑ d : Fin 128, Spec.key (X x0) (T x2) (T x3) b (pos i) ⟨e.val / 512, by omega⟩ d * Spec.query (X x0) (T x2) (T x3) b j ⟨e.val / 128, by omega⟩ d)
    (fun i => Spec.value (X x0) b (pos i) ⟨e.val / 512, by omega⟩ ⟨e.val % 128, Nat.mod_lt _ (by decide)⟩)
    (S x1 ⟨e.val / 128, by omega⟩).toReal
    (fun s => by rw [score_apply x0 x1 x2 x3 hfin, hh]; simp only [zero_add, pos_coe])
    (fun s _ => by simp only [zero_add, pos_coe]) _ rfl
  rw [← hsk] at hb
  refine Eq.trans (Finset.sum_congr rfl fun s _ => mul_comm _ _) hb

end Cert.Proof.Ref

end
-- ==== Proof.AttnClaim.lean ====
module

public import proofs.«01_k».proof.Proof.KernelArray
public import proofs.«01_k».proof.Proof.RefValue
public import proofs.«01_k».proof.Proof.Gen.Pre_finite
public import proofs.«01_k».proof.Defs
public import Idealize.ShloMosaic.Lib.ReduceAll

/-!
  The attention's value claim: on queries, keys, sinks and rope tables that are real numbers, the kernel and the
  reference leave the same array.
-/

@[expose] public section

set_option maxRecDepth 65536

noncomputable section

namespace Cert.Proof

open Idealize.ShloMosaic Idealize.ShloMosaic.TcCoe Idealize.SL.Sem

/-- A number whose magnitude is below infinity is real. -/
theorem real_of_word (x : EReal) (h : BitVec.ofBool (decide (max x (-x) < Ideal.ofBits .f32 0x7F800000#32)) = 1#1) : x = (x.toReal : EReal) := by
  have h' : max x (-x) < ⊤ := by
    by_contra hn
    rw [Block.pos_inf, decide_eq_false hn] at h
    exact absurd h (by decide)
  induction x with
  | bot => simp at h'
  | top => simp at h'
  | coe r => rfl

/-- The precondition says that the arguments' numbers are real. -/
theorem finite_of_pre (m : (ℓ : Loc Cert.AttnIdeal.nD Cert.AttnIdeal.τ Cert.AttnIdeal.sig) → Buf (Elt Ideal) ℓ) (hp : Pre_AttnIdeal_finite m) (c : Dev Cert.AttnIdeal.nD) :
    Spec.Finite (Block.X m c) (Block.S m c) (Block.C m c) (Block.D m c) := by
  obtain ⟨h1, h2, h3, h4⟩ := hp c
  constructor
  · intro b j e he he'
    have hw := congrFun h1 (ix3 b j ⟨e.val - 4096, by omega⟩)
    revert hw
    pointwise [Cert.Pre_finite.fn]
    intro hw
    have he2 : (⟨4096 + (e.val - 4096), by omega⟩ : Fin 10752) = e := Fin.ext (by simp only; omega)
    exact real_of_word _ (by rw [← he2]; exact hw)
  · intro h
    have hw := congrFun h2 (ix2 0 h)
    revert hw
    pointwise [Cert.Pre_finite.fn]
    exact real_of_word _
  · intro j d
    have hw := congrFun h3 (ix2 j d)
    revert hw
    pointwise [Cert.Pre_finite.fn]
    exact real_of_word _
  · intro j d
    have hw := congrFun h4 (ix2 j d)
    revert hw
    pointwise [Cert.Pre_finite.fn]
    exact real_of_word _

/-- The attention kernel and its reference compute the same array. -/
theorem attention : algebraic_AttnIdeal_AttnRefIdeal_pre_finite := by
  intro m g m' g' hp hagree
  refine ⟨fun c => (Cert.AttnIdeal.Gen.dats m 0 c).arrAt 8 Cert.AttnIdeal.cfg0.N, Cert.AttnIdeal.Value.run_blocks m g, ?_⟩
  refine (θ_run _ _ _).mono (fun r h c => ⟨(h c).1.trans ?_, (h c).2⟩) (Cert.AttnRefIdeal.Value.run m' g')
  obtain ⟨e0, e1, e2, e3⟩ := hagree c
  rw [Cert.AttnRefIdeal.Read.val_main_v86_eq, e0, e1, e2, e3]
  refine Eq.trans ?_ (Block.array_eq m c (finite_of_pre m hp c)).symm
  funext i
  have hi : i = ix3 (i 0) (i 1) (i 2) := by funext a; fin_cases a <;> rfl
  rw [hi]
  exact Ref.out_apply _ _ _ _ (finite_of_pre m hp c) (i 0) (i 1) (i 2)

end Cert.Proof

end
-- ==== Proof.ProjClaim.lean ====
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Claim

/-!
  The second layer's input projection, over the extended reals: each block of the kernel's output is
  a block of the product of the stream with the weights, and that product is the reference's result.
-/

@[expose] public section

set_option maxRecDepth 65536

noncomputable section

namespace Cert.Proof.Project

open Idealize.ShloMosaic Idealize.ShloMosaic.TcCoe Idealize.SL.Sem

/-- One entry of the product of the stream `H` with the second layer's weights `W`. -/
def entry (H : Fin 16384 → Fin 2048 → EReal) (W : Fin 2048 → Fin 10752 → EReal) (r : Fin 16384) (n : Fin 10752) : EReal :=
  ∑ k : Fin 2048, H r k * W k n

section Kernel

open Cert.ProjIdeal Cert.ProjIdeal.Gen

variable (m : (ℓ : Loc nD τ sig) → Buf (Elt Ideal) ℓ) (c : Dev nD)

/-- Where each window's block lies at a grid point. -/
theorem idx : ∀ t : Fin cfg0.N, win0_0.index t = ![(grid0.coords t 0).val, 0] ∧ win0_1.index t = ![1, 0, (grid0.coords t 1).val] ∧
    win0_2.index t = ![(grid0.coords t 0).val, (grid0.coords t 1).val] := by decide +kernel

/-- The stream. -/
abbrev H (r : Fin 16384) (k : Fin 2048) : EReal := m ((c : Thread nD τ).loc main_arg0) (ix2 r k)
/-- The second layer's weights. -/
abbrev W (k : Fin 2048) (n : Fin 10752) : EReal := m ((c : Thread nD τ).loc main_arg1) (ix3 1 k n)

/-- A row of a grid point's block, in the array. -/
def row (t : Fin cfg0.N) (r : Fin 1024) : Fin 16384 :=
  ⟨1024 * (grid0.coords t 0).val + r.val, by have := (grid0.coords t 0).isLt; have : (grid0.coords t 0).val < 16 := this; omega⟩
/-- A column of a grid point's block, in the array. -/
def col (t : Fin cfg0.N) (n : Fin 1792) : Fin 10752 :=
  ⟨1792 * (grid0.coords t 1).val + n.val, by have := (grid0.coords t 1).isLt; have : (grid0.coords t 1).val < 6 := this; omega⟩

theorem stream_blk (t : Fin cfg0.N) (r : Fin 1024) (k : Fin 2048) : iblk m c 0 t (ix2 r k) = H m c (row t r) k := by
  blk_ext [iblk, V_main_arg0, idx t, row]

theorem weight_blk (t : Fin cfg0.N) (k : Fin 2048) (n : Fin 1792) : iblk m c 1 t (ix3 0 k n) = W m c k (col t n) := by
  have e : iblk m c 1 t (ix3 0 k n) = V m c main_v0 (ix3 1 k (col t n)) := by blk_ext [iblk, idx t, col]
  rw [e]
  entry_read
  pointwise []

/-- What a grid point writes is the product of its two blocks. -/
theorem window_apply (x : Vec Ideal S1024x2048 .bf16) (w : Vec Ideal S1x2048x1792 .bf16) (r : Fin 1024) (n : Fin 1792) :
    (out0_2 x w (ix2 r n) : EReal) = ∑ k : Fin 2048, ((x (ix2 r k) : EReal) * (w (ix3 0 k n) : EReal)) := by
  frame_out
  unfold k0_pay1
  pointwise []

/-- A grid point writes its block of the product. -/
theorem block_eq (t : Fin cfg0.N) (r : Fin 1024) (n : Fin 1792) :
    (out0_2 (iblk m c 0 t) (iblk m c 1 t) (ix2 r n) : EReal) = entry (H m c) (W m c) (row t r) (col t n) := by
  refine (window_apply _ _ r n).trans (Finset.sum_congr rfl fun k _ => ?_)
  exact congrArg₂ (fun a b : EReal => a * b) (stream_blk m c t r k) (weight_blk m c t k n)

theorem entry_of_val (A : Fin 16384 → Fin 2048 → EReal) (B : Fin 2048 → Fin 10752 → EReal) (r r' : Fin 16384) (n n' : Fin 10752)
    (hr : r.val = r'.val) (hn : n.val = n'.val) : entry A B r n = entry A B r' n' := by
  rw [Fin.ext hr, Fin.ext hn]

/-- The kernel's output array is the product. -/
theorem array_eq : (dats m 0 c).arrAt 2 cfg0.N = fun i => entry (H m c) (W m c) (i 0) (i 1) := by
  refine (dats m 0 c).arrAt_eq_of_covers 2 _ (by decide +kernel) fun t hf y => ?_
  let r : Fin 1024 := ⟨(y 0).val, (y 0).isLt⟩
  let n : Fin 1792 := ⟨(y 1).val, (y 1).isLt⟩
  have hy : y = ix2 r n := by funext a; fin_cases a <;> rfl
  refine Eq.trans ?_ (b := entry (H m c) (W m c) (row t r) (col t n)) ?_
  · rw [hy, after0_2]
    have e := block_eq m c t r n
    generalize out0_2 (iblk m c 0 t) (iblk m c 1 t) = o at e ⊢
    exact e
  · clear hf
    have h0 : ((((cfg0.win 2).blk t).view.emb y) 0 : ℕ) = (row t r).val := by
      blk_simp [idx t, row, r]
      exact Nat.add_right_cancel_iff.mpr (Nat.mul_comm _ _)
    have h1 : ((((cfg0.win 2).blk t).view.emb y) 1 : ℕ) = (col t n).val := by
      blk_simp [idx t, col, n]
      exact Nat.add_right_cancel_iff.mpr (Nat.mul_comm _ _)
    exact (entry_of_val (H m c) (W m c) _ _ _ _ h0 h1).symm

end Kernel

section Reference

open Cert.ProjRefIdeal Cert.ProjRefIdeal.Gen Cert.ProjRefIdeal.Read

/-- The reference's result is the product. -/
theorem ref_eq (x0 : (⟨S16384x2048, .bf16⟩ : BufTy).Contents (Elt Ideal)) (x1 : (⟨S2x2048x10752, .f32⟩ : BufTy).Contents (Elt Ideal))
    (r : Fin 16384) (n : Fin 10752) :
    val_main_v3 (F := Ideal) x0 x1 (ix2 r n) = entry (fun r k => x0 (ix2 r k)) (fun k n => x1 (ix3 1 k n)) r n := by
  unfold val_main_v3 val_main_v0 val_main_v2 val_main_v1 entry
  pointwise []

end Reference

end Cert.Proof.Project

namespace Cert.Proof

open Idealize.ShloMosaic Idealize.ShloMosaic.TcCoe Idealize.SL.Sem

/-- The second layer's input projection computes its reference's result over the extended reals. -/
theorem project : Cert.algebraic_ProjIdeal_ProjRefIdeal := by
  intro m g m' g' hp hagree
  refine ⟨fun c => (Cert.ProjIdeal.Gen.dats m 0 c).arrAt 2 Cert.ProjIdeal.cfg0.N, Cert.ProjIdeal.Value.run_blocks m g, ?_⟩
  refine (θ_run _ _ _).mono (fun r h c => ⟨(h c).1.trans ?_, (h c).2⟩) (Cert.ProjRefIdeal.Value.run m' g')
  obtain ⟨e0, e1⟩ := hagree c
  rw [Cert.ProjRefIdeal.Read.val_main_v3_eq, e0, e1]
  refine Eq.trans ?_ (Project.array_eq m c).symm
  funext i
  obtain ⟨r, n, rfl⟩ : ∃ r n, i = ix2 r n := ⟨i 0, i 1, funext fun a => by fin_cases a <;> rfl⟩
  exact Project.ref_eq _ _ r n

end Cert.Proof

end
-- ==== Proof.LayerRows.lean ====
module

public import Idealize.ShloMosaic.Lib.Pipeline.ValueKit
public import Idealize.ShloMosaic.Lib.Pipeline.ReadBack

/-!
  The end of a layer on one row, over the extended reals: the two branches merged by their gates,
  projected, added to the stream and normalised. And what the two kernels of it share: they build the
  merged row in four blocks of 512 columns, from the same columns of the branches' weights, and then
  read it whole.
-/

@[expose] public section

set_option maxRecDepth 65536

noncomputable section

namespace Cert.Proof

open Idealize.ShloMosaic Idealize.SL.Sem

/-- A row divided by its root mean square and multiplied by the gain. -/
def scaled (x g : Fin 2048 → EReal) (k : Fin 2048) : EReal :=
  x k * Ideal.rsqrt (Ideal.div (∑ j : Fin 2048, x j * x j) (Ideal.ofBits FTy.f32 0x45000000#32) + Ideal.ofBits FTy.f32 0x358637BD#32) * g k

/-- An entry of the merged row: each branch `y`, `a` projected and multiplied by the logistic function of its gate `gh`, `ga`. -/
def merged (gh ga : Fin 2048 → EReal) (y a : Fin 1024 → EReal) (wh wa : Fin 1024 → Fin 2048 → EReal) (n : Fin 2048) : EReal :=
  Ideal.logistic (gh n) * (∑ i : Fin 1024, y i * wh i n) + Ideal.logistic (ga n) * ∑ i : Fin 1024, a i * wa i n

/-- An entry of the row that leaves the layer: the row `x` that entered it, and the projection of the merged row `u`. -/
def stream (x u : Fin 2048 → EReal) (w : Fin 2048 → Fin 2048 → EReal) (k : Fin 2048) : EReal :=
  x k + ∑ j : Fin 2048, u j * w j k

/-- A row that leaves the layer, of the rows `X` that entered it and the projected rows `P`, whose columns from 6656 and from 8704 on are the gates. -/
def leaving (X : Fin 16384 → Fin 2048 → EReal) (P : Fin 16384 → Fin 10752 → EReal) (Y A : Fin 16384 → Fin 1024 → EReal)
    (WH WA : Fin 1024 → Fin 2048 → EReal) (W : Fin 2048 → Fin 2048 → EReal) (r : Fin 16384) : Fin 2048 → EReal :=
  stream (X r) (merged (fun n => P r ⟨6656 + n.val, by omega⟩) (fun n => P r ⟨8704 + n.val, by omega⟩) (Y r) (A r) WH WA) W

namespace Merge

/-- A column of block `b` among all the columns. -/
def lane (b : Fin 4) (e : Fin 512) : Fin 2048 := ⟨512 * b.val + e.val, by omega⟩

/-- Column `e` of the block of a weight's columns that begins at `o`. -/
theorem weight_cols (X : Vec Ideal ⟨3, ![1, 1024, 2048]⟩ .bf16) (o : ℕ) (inb) (i : Fin 1024) (e : Fin 512) (n : Fin 2048) (hn : n.val = o + e.val) :
    View.ld X (Rect.unit (s := ⟨3, ![1, 1024, 2048]⟩) ![0, 0, o] ![1, 1024, 512] inb) (ix3 0 i e) = X (ix3 0 i n) :=
  View.ld_unit_apply_of _ _ _ _ _ _ (by intro a; fin_cases a <;> simp [hn])

/-- A block of columns, read in the array of all the columns. -/
theorem merged_piece (M : Fin 256 → Fin 2048 → EReal) (b : Fin 4) (p : Vec Ideal ⟨2, ![256, 512]⟩ .bf16) (h : ∀ r e, (p (ix2 r e) : EReal) = M r (lane b e))
    (o : ℕ) (ho : o = 512 * b.val) (inb) (x : (Rect.unit (s := ⟨2, ![256, 2048]⟩) ![0, o] ![256, 512] inb).shape.Idx) :
    (p x : EReal) = M ((Rect.unit (s := ⟨2, ![256, 2048]⟩) ![0, o] ![256, 512] inb).emb x 0) ((Rect.unit (s := ⟨2, ![256, 2048]⟩) ![0, o] ![256, 512] inb).emb x 1) := by
  have hx : x = ix2 (x 0) (x 1) := by funext a; fin_cases a <;> rfl
  rw [hx]
  refine (h (x 0) (x 1)).trans ?_
  subst ho
  refine congrArg₂ M (Fin.ext ?_) (Fin.ext ?_)
  · exact ((Rect.idx_unit_val _ _ _ x (0 : Fin 2)).trans (Nat.zero_add _)).symm
  · exact (Rect.idx_unit_val _ _ _ x (1 : Fin 2)).symm

/-- Four blocks of columns stored, and all the columns loaded: the merged rows. -/
theorem load_merged {sig : RefSig} {κ : Kind} {sp : Space} (v : View sig κ sp ⟨2, ![256, 2048]⟩ .bf16) (M : Fin 256 → Fin 2048 → EReal)
    (p0 p1 p2 p3 : Vec Ideal ⟨2, ![256, 512]⟩ .bf16)
    (h0 : ∀ r e, (p0 (ix2 r e) : EReal) = M r (lane 0 e)) (h1 : ∀ r e, (p1 (ix2 r e) : EReal) = M r (lane 1 e))
    (h2 : ∀ r e, (p2 (ix2 r e) : EReal) = M r (lane 2 e)) (h3 : ∀ r e, (p3 (ix2 r e) : EReal) = M r (lane 3 e))
    (inb0 inb1 inb2 inb3 inb) (r : Fin 256) (n : Fin 2048) :
    (v.readCov (Val := Elt Ideal)
        [⟨Rect.unit ![0, 1536] ![256, 512] inb3, p3⟩, ⟨Rect.unit ![0, 1024] ![256, 512] inb2, p2⟩,
          ⟨Rect.unit ![0, 512] ![256, 512] inb1, p1⟩, ⟨Rect.unit ![0, 0] ![256, 512] inb0, p0⟩]
        (Rect.unit (s := ⟨2, ![256, 2048]⟩) ![0, 0] ![256, 2048] inb).toLoadRect (ix2 r n) : EReal) = M r n := by
  rw [View.readCov_eq_canon']
  dsimp only
  have e : (Rect.unit (s := ⟨2, ![256, 2048]⟩) ![0, 0] ![256, 2048] inb).toLoadRect.idx (ix2 r n) = ix2 r n := by
    funext a; refine Fin.ext ((Rect.idx_unit_val _ _ _ _ a).trans ?_); fin_cases a <;> simp
  rw [e]
  let G : Shape.Idx ⟨2, ![256, 2048]⟩ → Elt Ideal .bf16 := fun y => M (y 0) (y 1)
  refine View.canon_apply_of_pieces (Val := Elt Ideal) (e := .bf16) G _ ?_ (ix2 r n) ?_
  · refine View.PiecesOf.mem (Val := Elt Ideal) (e := .bf16) (G := G) ?_
    refine ⟨?_, ?_, ?_, ?_, trivial⟩
    · exact merged_piece M 3 p3 h3 _ rfl inb3
    · exact merged_piece M 2 p2 h2 _ rfl inb2
    · exact merged_piece M 1 p1 h1 _ rfl inb1
    · exact merged_piece M 0 p0 h0 _ rfl inb0
  · have hn := n.isLt
    have hr := r.isLt
    rcases (by omega : n.val < 512 ∨ (512 ≤ n.val ∧ n.val < 1024) ∨ (1024 ≤ n.val ∧ n.val < 1536) ∨ 1536 ≤ n.val) with h | h | h | h
    · refine ⟨_, List.mem_cons_of_mem _ (List.mem_cons_of_mem _ (List.mem_cons_of_mem _ (List.mem_cons_self ..))), (Rect.mem_set_unit (inb := inb0)).2 fun a => ?_⟩
      fin_cases a <;> simp <;> omega
    · refine ⟨_, List.mem_cons_of_mem _ (List.mem_cons_of_mem _ (List.mem_cons_self ..)), (Rect.mem_set_unit (inb := inb1)).2 fun a => ?_⟩
      fin_cases a <;> simp <;> omega
    · refine ⟨_, List.mem_cons_of_mem _ (List.mem_cons_self ..), (Rect.mem_set_unit (inb := inb2)).2 fun a => ?_⟩
      fin_cases a <;> simp <;> omega
    · refine ⟨_, List.mem_cons_self .., (Rect.mem_set_unit (inb := inb3)).2 fun a => ?_⟩
      fin_cases a <;> simp <;> omega

end Merge

end Cert.Proof

end
-- ==== Proof.NormProjClaim.lean ====
module

public import proofs.«01_k».proof.Defs
public import proofs.«01_k».proof.Proof.Gen.NormProjIdeal.Value
public import proofs.«01_k».proof.Proof.Gen.NormProjRefIdeal.Run
public import proofs.«01_k».proof.Proof.Gen.NormProjRefIdeal.Read
public import proofs.«01_k».proof.Proof.LayerRows
public import Idealize.ShloMosaic.Lib.Pipeline.ValueKit
public import Idealize.ShloMosaic.Lib.Pipeline.ReadBack
public import Idealize.ShloMosaic.Lib.Claim

/-!
  The first layer's normalisation and input projection, over the extended reals. The kernel
  normalises a block of rows at the first of its six columns of blocks and keeps it for the other
  five; each block of the output is a block of the product of the normalised stream with the weights.
-/

@[expose] public section

set_option maxRecDepth 65536

noncomputable section

namespace Cert.Proof.NormProject

open Idealize.ShloMosaic Idealize.ShloMosaic.TcCoe Idealize.SL.Sem

/-- One entry of the product of the normalised stream with the weights. -/
def entry (X : Fin 16384 → Fin 2048 → EReal) (G : Fin 2048 → EReal) (W : Fin 2048 → Fin 10752 → EReal) (r : Fin 16384) (n : Fin 10752) : EReal :=
  ∑ k : Fin 2048, scaled (X r) G k * W k n

theorem entry_of_val (X : Fin 16384 → Fin 2048 → EReal) (G : Fin 2048 → EReal) (W : Fin 2048 → Fin 10752 → EReal) (r r' : Fin 16384) (n n' : Fin 10752)
    (hr : r.val = r'.val) (hn : n.val = n'.val) : entry X G W r n = entry X G W r' n' := by
  rw [Fin.ext hr, Fin.ext hn]

section Kernel

open Cert.NormProjIdeal Cert.NormProjIdeal.Gen

/-- What the kernel keeps of a block of rows: the rows, normalised. -/
theorem scale_apply (x : Vec Ideal S1024x2048 .f32) (g : Vec Ideal S1x1x2048 .f32) (r : Fin 1024) (k : Fin 2048) :
    (k0_pay1 x g (ix2 r k) : EReal) = scaled (fun j => x (ix2 r j)) (fun j => g (ix3 0 0 j)) k := by
  unfold k0_pay1 scaled
  pointwise []

/-- What the kernel writes of the rows it keeps and a block of weights: their product. -/
theorem dot_apply (s : Vec Ideal S1024x2048 .bf16) (w : Vec Ideal S1x2048x1792 .bf16) (r : Fin 1024) (n : Fin 1792) :
    (k0_pay2 s w (ix2 r n) : EReal) = ∑ k : Fin 2048, ((s (ix2 r k) : EReal) * (w (ix3 0 k n) : EReal)) := by
  unfold k0_pay2
  pointwise []

variable (m : (ℓ : Loc nD τ sig) → Buf (Elt Ideal) ℓ) (c : Dev nD)

/-- At the first column of blocks the kernel writes the product of the rows it has just normalised. -/
theorem first_out (t : Fin cfg0.N) (h0 : t.val % 6 = 0) (x : Vec Ideal S1024x2048 .f32) (g : Vec Ideal S1x1x2048 .f32) (w : Vec Ideal S1x2048x1792 .bf16) :
    out0_A_3 (F := Ideal) c (grid0.coords t) (ms0_0 t) (hs0_0 t) (ms0_1 t) (hs0_1 t) (ms0_2 t) (hs0_2 t) (ms0_3 t) (hs0_3 t) scM0_0
      (Memref.isWhole_whole _) ((hcond0_0 t).mpr h0) x g w = k0_pay2 (k0_pay1 x g) w := by
  frame_out

/-- At the first column of blocks the kernel keeps the normalised rows. -/
theorem first_kept (t : Fin cfg0.N) (h0 : t.val % 6 = 0) (x : Vec Ideal S1024x2048 .f32) (g : Vec Ideal S1x1x2048 .f32) (w : Vec Ideal S1x2048x1792 .bf16) :
    sout0_A_0 (F := Ideal) c (grid0.coords t) (ms0_0 t) (hs0_0 t) (ms0_1 t) (hs0_1 t) (ms0_2 t) (hs0_2 t) (ms0_3 t) (hs0_3 t) scM0_0
      (Memref.isWhole_whole _) ((hcond0_0 t).mpr h0) x g w = k0_pay1 x g := by
  frame_out

/-- At a later column of blocks the kernel writes the product of the rows it has kept. -/
theorem later_out (t : Fin cfg0.N) (h0 : ¬ t.val % 6 = 0) (x : Vec Ideal S1024x2048 .f32) (g : Vec Ideal S1x1x2048 .f32) (w : Vec Ideal S1x2048x1792 .bf16)
    (s : Vec Ideal S1024x2048 .bf16) :
    out0_B_3 (F := Ideal) c (grid0.coords t) (ms0_0 t) (hs0_0 t) (ms0_1 t) (hs0_1 t) (ms0_2 t) (hs0_2 t) (ms0_3 t) (hs0_3 t) scM0_0
      (Memref.isWhole_whole _) (fun h => h0 ((hcond0_0 t).mp h)) x g w s = k0_pay2 s w := by
  frame_out
  exact congrArg (fun z => k0_pay2 z w) (read_unread_whole cc0_scratch0 _ s)

/-- Where each window's block lies at a grid point. -/
theorem idx : ∀ t : Fin cfg0.N, win0_0.index t = ![(grid0.coords t 0).val, 0] ∧ win0_1.index t = ![0, 0, 0] ∧
    win0_2.index t = ![0, 0, (grid0.coords t 1).val] ∧
    win0_3.index t = ![(grid0.coords t 0).val, (grid0.coords t 1).val] := by decide +kernel

/-- The row of blocks of a grid point is its number divided by six. -/
theorem coord_row : ∀ t : Fin cfg0.N, (grid0.coords t 0).val = t.val / 6 := by decide +kernel

/-- The stream. -/
abbrev X (r : Fin 16384) (k : Fin 2048) : EReal := m ((c : Thread nD τ).loc main_arg0) (ix2 r k)
/-- The first layer's gain. -/
abbrev G (k : Fin 2048) : EReal := m ((c : Thread nD τ).loc main_arg1) (ix2 0 k)
/-- The first layer's weights. -/
abbrev W (k : Fin 2048) (n : Fin 10752) : EReal := m ((c : Thread nD τ).loc main_arg2) (ix3 0 k n)

/-- A row of a grid point's block, in the array. -/
def row (t : Fin cfg0.N) (r : Fin 1024) : Fin 16384 :=
  ⟨1024 * (grid0.coords t 0).val + r.val, by have := (grid0.coords t 0).isLt; have : (grid0.coords t 0).val < 16 := this; omega⟩
/-- A column of a grid point's block, in the array. -/
def col (t : Fin cfg0.N) (n : Fin 1792) : Fin 10752 :=
  ⟨1792 * (grid0.coords t 1).val + n.val, by have := (grid0.coords t 1).isLt; have : (grid0.coords t 1).val < 6 := this; omega⟩

theorem stream_blk (t : Fin cfg0.N) (r : Fin 1024) (k : Fin 2048) : iblk m c 0 t (ix2 r k) = X m c (row t r) k := by
  blk_ext [iblk, V_main_arg0, idx t, row]

theorem gain_blk (t : Fin cfg0.N) (k : Fin 2048) : iblk m c 1 t (ix3 0 0 k) = G m c k := by
  have e : iblk m c 1 t (ix3 0 0 k) = V m c main_v0 (ix3 0 0 k) := by blk_ext [iblk, idx t]
  rw [e]
  entry_read
  pointwise []

theorem weight_blk (t : Fin cfg0.N) (k : Fin 2048) (n : Fin 1792) : iblk m c 2 t (ix3 0 k n) = W m c k (col t n) := by
  have e : iblk m c 2 t (ix3 0 k n) = V m c main_v1 (ix3 0 k (col t n)) := by blk_ext [iblk, idx t, col]
  rw [e]
  entry_read
  pointwise []

/-- The rows normalised at a grid point are those of the stream. -/
theorem scaled_blk (t : Fin cfg0.N) (r : Fin 1024) (k : Fin 2048) :
    (k0_pay1 (iblk m c 0 t) (iblk m c 1 t) (ix2 r k) : EReal) = scaled (X m c (row t r)) (G m c) k := by
  refine (scale_apply (iblk m c 0 t) (iblk m c 1 t) r k).trans ?_
  exact congrArg₂ (fun x g => scaled x g k) (funext fun j => stream_blk m c t r j) (funext fun j => gain_blk m c t j)

/-- After every grid point the kernel keeps the normalised rows of the point's row of blocks. -/
theorem kept (n : ℕ) (hn : n < cfg0.N) (r : Fin 1024) (k : Fin 2048) :
    ((outsAt0 m c n hn).2 (ix2 r k) : EReal) = scaled (X m c (row ⟨n, hn⟩ r)) (G m c) k := by
  induction n with
  | zero =>
    have e := congrArg Prod.snd (outsAt0_A m c ⟨0, hn⟩ rfl)
    refine (congrFun e (ix2 r k)).trans ?_
    dsimp only
    rw [first_kept c ⟨0, hn⟩ rfl]
    exact scaled_blk m c ⟨0, hn⟩ r k
  | succ n ih =>
    by_cases h0 : (n + 1) % 6 = 0
    · have e := congrArg Prod.snd (outsAt0_A m c ⟨n + 1, hn⟩ h0)
      refine (congrFun e (ix2 r k)).trans ?_
      dsimp only
      rw [first_kept c ⟨n + 1, hn⟩ h0]
      exact scaled_blk m c ⟨n + 1, hn⟩ r k
    · have e := congrArg Prod.snd (outsAt0_B m c ⟨n + 1, hn⟩ h0)
      refine (congrFun e (ix2 r k)).trans ?_
      have hr : row ⟨n + 1, hn⟩ r = row ⟨n, Nat.lt_of_succ_lt hn⟩ r := by
        apply Fin.ext
        simp only [row, coord_row]
        omega
      rw [hr]
      exact ih (Nat.lt_of_succ_lt hn)

/-- A grid point writes its block of the product. -/
theorem block_eq (t : Fin cfg0.N) (r : Fin 1024) (n : Fin 1792) :
    ((outsAt0 m c t.val t.isLt).1 (ix2 r n) : EReal) = entry (X m c) (G m c) (W m c) (row t r) (col t n) := by
  by_cases h0 : t.val % 6 = 0
  · have e := congrArg Prod.fst (outsAt0_A m c t h0)
    refine (congrFun e (ix2 r n)).trans ?_
    dsimp only
    rw [first_out c t h0]
    refine (dot_apply _ (iblk m c 2 t) r n).trans (Finset.sum_congr rfl fun k _ => ?_)
    exact congrArg₂ (fun a b : EReal => a * b) (scaled_blk m c t r k) (weight_blk m c t k n)
  · have e := congrArg Prod.fst (outsAt0_B m c t h0)
    refine (congrFun e (ix2 r n)).trans ?_
    dsimp only
    rw [later_out c t h0]
    refine (dot_apply _ (iblk m c 2 t) r n).trans (Finset.sum_congr rfl fun k _ => ?_)
    refine congrArg₂ (fun a b : EReal => a * b) ((kept m c (t.val - 1) _ r k).trans ?_) (weight_blk m c t k n)
    have hr : row ⟨t.val - 1, Nat.lt_of_le_of_lt (Nat.sub_le _ _) t.isLt⟩ r = row t r := by
      apply Fin.ext
      simp only [row, coord_row]
      omega
    rw [hr]

/-- The kernel's output array is the product. -/
theorem array_eq : (dats m 0 c).arrAt 3 cfg0.N = fun i => entry (X m c) (G m c) (W m c) (i 0) (i 1) := by
  refine (dats m 0 c).arrAt_eq_of_covers 3 _ (by decide +kernel) fun t hf y => ?_
  let r : Fin 1024 := ⟨(y 0).val, (y 0).isLt⟩
  let n : Fin 1792 := ⟨(y 1).val, (y 1).isLt⟩
  have hy : y = ix2 r n := by funext a; fin_cases a <;> rfl
  refine Eq.trans ?_ (b := entry (X m c) (G m c) (W m c) (row t r) (col t n)) ?_
  · rw [hy, after0_3]
    have e := block_eq m c t r n
    generalize (outsAt0 m c t.val t.isLt).1 = o at e ⊢
    exact e
  · clear hf
    have h0 : ((((cfg0.win 3).blk t).view.emb y) 0 : ℕ) = (row t r).val := by
      blk_simp [idx t, row, r]
      exact Nat.add_right_cancel_iff.mpr (Nat.mul_comm _ _)
    have h1 : ((((cfg0.win 3).blk t).view.emb y) 1 : ℕ) = (col t n).val := by
      blk_simp [idx t, col, n]
      exact Nat.add_right_cancel_iff.mpr (Nat.mul_comm _ _)
    exact (entry_of_val (X m c) (G m c) (W m c) _ _ _ _ h0 h1).symm

end Kernel

section Reference

open Cert.NormProjRefIdeal Cert.NormProjRefIdeal.Gen Cert.NormProjRefIdeal.Read

/-- The reference's normalised stream. -/
theorem ref_scaled (x0 : (⟨S16384x2048, .f32⟩ : BufTy).Contents (Elt Ideal)) (x1 : (⟨S2x2048, .f32⟩ : BufTy).Contents (Elt Ideal))
    (r : Fin 16384) (k : Fin 2048) :
    (val_main_v14 (F := Ideal) x0 x1 (ix2 r k) : EReal) = scaled (fun k => x0 (ix2 r k)) (fun k => x1 (ix2 0 k)) k := by
  unfold val_main_v14 val_main_v13 val_main_v12 val_main_v11 val_main_v10 val_main_v9 val_main_v8 val_main_v7 val_main_cst_1 val_main_v6 val_main_v5 val_main_cst_0
    val_main_v4 val_main_v3 val_main_cst val_main_v2 val_main_v1 val_main_v0 scaled
  pointwise []

/-- The reference's result is the product. -/
theorem ref_eq (x0 : (⟨S16384x2048, .f32⟩ : BufTy).Contents (Elt Ideal)) (x1 : (⟨S2x2048, .f32⟩ : BufTy).Contents (Elt Ideal))
    (x2 : (⟨S2x2048x10752, .f32⟩ : BufTy).Contents (Elt Ideal)) (r : Fin 16384) (n : Fin 10752) :
    (val_main_v17 (F := Ideal) x0 x1 x2 (ix2 r n) : EReal) =
      entry (fun r k => x0 (ix2 r k)) (fun k => x1 (ix2 0 k)) (fun k n => x2 (ix3 0 k n)) r n := by
  have e : (val_main_v17 (F := Ideal) x0 x1 x2 (ix2 r n) : EReal) =
      ∑ k : Fin 2048, ((val_main_v14 (F := Ideal) x0 x1 (ix2 r k) : EReal) * (x2 (ix3 0 k n) : EReal)) := by
    unfold val_main_v17 val_main_v16 val_main_v15
    generalize val_main_v14 (F := Ideal) x0 x1 = h
    pointwise []
  rw [e]
  simp only [ref_scaled]
  rfl

end Reference

end Cert.Proof.NormProject

namespace Cert.Proof

open Idealize.ShloMosaic Idealize.ShloMosaic.TcCoe Idealize.SL.Sem

/-- The first layer's input projection computes its reference's result over the extended reals. -/
theorem normProject : Cert.algebraic_NormProjIdeal_NormProjRefIdeal := by
  intro m g m' g' hp hagree
  refine ⟨fun c => (Cert.NormProjIdeal.Gen.dats m 0 c).arrAt 3 Cert.NormProjIdeal.cfg0.N, Cert.NormProjIdeal.Value.run_blocks m g, ?_⟩
  refine (θ_run _ _ _).mono (fun r h c => ⟨(h c).1.trans ?_, (h c).2⟩) (Cert.NormProjRefIdeal.Value.run m' g')
  obtain ⟨e0, e1, e2⟩ := hagree c
  rw [Cert.NormProjRefIdeal.Read.val_main_v17_eq, e0, e1, e2]
  refine Eq.trans ?_ (NormProject.array_eq m c).symm
  funext i
  obtain ⟨r, n, rfl⟩ : ∃ r n, i = ix2 r n := ⟨i 0, i 1, funext fun a => by fin_cases a <;> rfl⟩
  exact NormProject.ref_eq _ _ _ r n

end Cert.Proof

end
-- ==== Proof.MergeClaim.lean ====
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.LayerRows
public import Idealize.ShloMosaic.Lib.Pipeline.ValueKit
public import Idealize.ShloMosaic.Lib.IdealHost
public import Idealize.ShloMosaic.Lib.Claim

/-!
  The last layer's merge, over the extended reals. A grid point merges the two branches of 256 rows,
  projects them, adds the stream and normalises; the rows it writes are those of the reference.
-/

@[expose] public section

set_option maxRecDepth 65536

noncomputable section

namespace Cert.Proof.MergeLast

open Idealize.ShloMosaic Idealize.ShloMosaic.TcCoe Idealize.SL.Sem Cert.Proof.Merge

section Kernel

open Cert.MergeIdeal Cert.MergeIdeal.Gen

section Window

/-- What the kernel keeps of the columns of the first block. -/
theorem first_apply (y a : Vec Ideal S256x1024 .bf16) (wh wa : Vec Ideal S1x1024x512 .bf16) (g h : Vec Ideal S256x512 .f32) (r : Fin 256) (e : Fin 512) :
    (k0_pay3 y a wh wa g h (ix2 r e) : EReal) = Ideal.logistic (g (ix2 r e)) * (∑ i : Fin 1024, (y (ix2 r i) : EReal) * (wh (ix3 0 i e) : EReal)) +
      Ideal.logistic (h (ix2 r e)) * ∑ i : Fin 1024, (a (ix2 r i) : EReal) * (wa (ix3 0 i e) : EReal) := by
  unfold k0_pay3
  pointwise []

/-- The other blocks are kept alike. -/
theorem second_eq (y a : Vec Ideal S256x1024 .bf16) (wh wa : Vec Ideal S1x1024x512 .bf16) (g h : Vec Ideal S256x512 .f32) :
    k0_pay6 (k0_pay4 a wa) (k0_pay5 y wh g) h = k0_pay3 y a wh wa g h := rfl

theorem third_eq (y a : Vec Ideal S256x1024 .bf16) (wh wa : Vec Ideal S1x1024x512 .bf16) (g h : Vec Ideal S256x512 .f32) :
    k0_pay7 y a wh wa g h = k0_pay3 y a wh wa g h := rfl

theorem fourth_eq (y a : Vec Ideal S256x1024 .bf16) (wh wa : Vec Ideal S1x1024x512 .bf16) (g h : Vec Ideal S256x512 .f32) :
    k0_pay1 (k0_pay8 y wh) (k0_pay9 a wa) g h = k0_pay3 y a wh wa g h := rfl

/-- What the kernel writes, of the merged rows it keeps. -/
theorem finish_apply (x : Vec Ideal S256x2048 .f32) (s : Vec Ideal S256x2048 .bf16) (w : Vec Ideal S1x2048x2048 .bf16) (g : Vec Ideal S1x2048 .f32)
    (r : Fin 256) (k : Fin 2048) :
    (k0_pay2 x s w g (ix2 r k) : EReal) =
      scaled (stream (fun n => x (ix2 r n)) (fun n => s (ix2 r n)) (fun j n => w (ix3 0 j n))) (fun n => g (ix2 0 n)) k := by
  unfold k0_pay2 scaled stream
  pointwise []

variable (c : Dev nD) (i : grid0.Coords)
  (arg1 : Memref sig .tc .vmem S256x2048 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S256x512 .f32) (harg4 : arg4.IsWhole)
  (arg5 : Memref sig .tc .vmem S256x512 .f32) (harg5 : arg5.IsWhole)
  (arg6 : Memref sig .tc .vmem S256x512 .f32) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S1x1024x2048 .bf16) (harg12 : arg12.IsWhole)
  (arg13 : Memref sig .tc .vmem S1x1024x2048 .bf16) (harg13 : arg13.IsWhole)
  (arg14 : Memref sig .tc .vmem S1x2048x2048 .bf16) (harg14 : arg14.IsWhole)
  (arg15 : Memref sig .tc .vmem S1x2048 .f32) (harg15 : arg15.IsWhole)
  (arg16 : Memref sig .tc .vmem S256x2048 .f32) (harg16 : arg16.IsWhole)
  (arg17 : Memref sig .tc .vmem S256x2048 .bf16) (harg17 : arg17.IsWhole)
  (x0 : Vec Ideal S256x2048 .f32) (x1 : Vec Ideal S256x1024 .bf16) (x2 : Vec Ideal S256x1024 .bf16) (x3 : Vec Ideal S256x512 .f32) (x4 : Vec Ideal S256x512 .f32)
  (x5 : Vec Ideal S256x512 .f32) (x6 : Vec Ideal S256x512 .f32) (x7 : Vec Ideal S256x512 .f32) (x8 : Vec Ideal S256x512 .f32) (x9 : Vec Ideal S256x512 .f32)
  (x10 : Vec Ideal S256x512 .f32) (x11 : Vec Ideal S1x1024x2048 .bf16) (x12 : Vec Ideal S1x1024x2048 .bf16) (x13 : Vec Ideal S1x2048x2048 .bf16) (x14 : Vec Ideal S1x2048 .f32)

/-- The merged rows of a window, the gates given by all their columns. -/
abbrev mergedRows (GH GA : Fin 256 → Fin 2048 → EReal) (r : Fin 256) : Fin 2048 → EReal :=
  merged (GH r) (GA r) (fun n => x1 (ix2 r n)) (fun n => x2 (ix2 r n)) (fun n k => x11 (ix3 0 n k)) (fun n k => x12 (ix3 0 n k))

/-- A block of columns of the merged rows, from the same columns of the weights. -/
theorem cols_apply (GH GA : Fin 256 → Fin 2048 → EReal) (b : Fin 4) (g h : Vec Ideal S256x512 .f32)
    (hg : ∀ r e, (g (ix2 r e) : EReal) = GH r (lane b e)) (hh : ∀ r e, (h (ix2 r e) : EReal) = GA r (lane b e))
    (o : ℕ) (ho : o = 512 * b.val) (inb) (r : Fin 256) (e : Fin 512) :
    (k0_pay3 x1 x2 (View.ld x11 (Rect.unit (s := S1x1024x2048) ![0, 0, o] ![1, 1024, 512] inb)) (View.ld x12 (Rect.unit (s := S1x1024x2048) ![0, 0, o] ![1, 1024, 512] inb))
      g h (ix2 r e) : EReal) = mergedRows x1 x2 x11 x12 GH GA r (lane b e) := by
  have hn : (lane b e).val = o + e.val := by rw [ho]; rfl
  refine (first_apply _ _ _ _ _ _ r e).trans ?_
  exact congrArg₂ (fun p q : EReal => p + q)
    (congrArg₂ (fun p q : EReal => Ideal.logistic p * q) (hg r e)
      (Finset.sum_congr rfl fun i _ => congrArg (fun q : EReal => (x1 (ix2 r i) : EReal) * q) (weight_cols x11 o inb i e _ hn)))
    (congrArg₂ (fun p q : EReal => Ideal.logistic p * q) (hh r e)
      (Finset.sum_congr rfl fun i _ => congrArg (fun q : EReal => (x2 (ix2 r i) : EReal) * q) (weight_cols x12 o inb i e _ hn)))

/-- What a grid point writes, from its windows' blocks. -/
theorem out_eq (GH GA : Fin 256 → Fin 2048 → EReal)
    (h3 : ∀ r e, (x3 (ix2 r e) : EReal) = GH r (lane 0 e)) (h4 : ∀ r e, (x4 (ix2 r e) : EReal) = GH r (lane 1 e))
    (h5 : ∀ r e, (x5 (ix2 r e) : EReal) = GH r (lane 2 e)) (h6 : ∀ r e, (x6 (ix2 r e) : EReal) = GH r (lane 3 e))
    (h7 : ∀ r e, (x7 (ix2 r e) : EReal) = GA r (lane 0 e)) (h8 : ∀ r e, (x8 (ix2 r e) : EReal) = GA r (lane 1 e))
    (h9 : ∀ r e, (x9 (ix2 r e) : EReal) = GA r (lane 2 e)) (h10 : ∀ r e, (x10 (ix2 r e) : EReal) = GA r (lane 3 e))
    (r : Fin 256) (k : Fin 2048) :
    (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 (ix2 r k) : EReal) =
      scaled (stream (fun n => x0 (ix2 r n)) (mergedRows x1 x2 x11 x12 GH GA r) (fun j n => x13 (ix3 0 j n))) (fun n => x14 (ix2 0 n)) k := by
  frame_out
  refine (finish_apply _ _ _ _ r k).trans ?_
  refine congrArg (fun u => scaled (stream (fun n => x0 (ix2 r n)) u (fun j n => x13 (ix3 0 j n))) (fun n => x14 (ix2 0 n)) k) (funext fun n => ?_)
  rw [second_eq, third_eq, fourth_eq]
  exact load_merged _ (mergedRows x1 x2 x11 x12 GH GA) _ _ _ _
    (cols_apply x1 x2 x11 x12 GH GA 0 x3 x7 h3 h7 _ rfl _) (cols_apply x1 x2 x11 x12 GH GA 1 x4 x8 h4 h8 _ rfl _)
    (cols_apply x1 x2 x11 x12 GH GA 2 x5 x9 h5 h9 _ rfl _) (cols_apply x1 x2 x11 x12 GH GA 3 x6 x10 h6 h10 _ rfl _) _ _ _ _ _ r n

end Window

variable (m : (ℓ : Loc nD τ sig) → Buf (Elt Ideal) ℓ) (c : Dev nD)

/-- Where each window's block lies at a grid point. -/
theorem idx : ∀ t : Fin cfg0.N, win0_0.index t = ![(grid0.coords t 0).val, 0] ∧ win0_1.index t = ![(grid0.coords t 0).val, 0] ∧
    win0_2.index t = ![(grid0.coords t 0).val, 0] ∧ win0_3.index t = ![(grid0.coords t 0).val, 13] ∧
    win0_4.index t = ![(grid0.coords t 0).val, 14] ∧ win0_5.index t = ![(grid0.coords t 0).val, 15] ∧
    win0_6.index t = ![(grid0.coords t 0).val, 16] ∧ win0_7.index t = ![(grid0.coords t 0).val, 17] ∧
    win0_8.index t = ![(grid0.coords t 0).val, 18] ∧ win0_9.index t = ![(grid0.coords t 0).val, 19] ∧
    win0_10.index t = ![(grid0.coords t 0).val, 20] ∧ win0_11.index t = ![1, 0, 0] ∧ win0_12.index t = ![1, 0, 0] ∧
    win0_13.index t = ![1, 0, 0] ∧ win0_14.index t = ![0, 0] ∧ win0_15.index t = ![(grid0.coords t 0).val, 0] := by decide +kernel

/-- The stream that enters the layer. -/
abbrev X (r : Fin 16384) (k : Fin 2048) : EReal := m ((c : Thread nD τ).loc main_arg0) (ix2 r k)
/-- The projected stream, which holds the gates. -/
abbrev P (r : Fin 16384) (n : Fin 10752) : EReal := m ((c : Thread nD τ).loc main_arg1) (ix2 r n)
/-- The two branches. -/
abbrev Y (r : Fin 16384) (k : Fin 1024) : EReal := m ((c : Thread nD τ).loc main_arg2) (ix2 r k)
abbrev A (r : Fin 16384) (k : Fin 1024) : EReal := m ((c : Thread nD τ).loc main_arg3) (ix2 r k)
/-- Their weights and the output projection's, of the last layer. -/
abbrev WH (k : Fin 1024) (n : Fin 2048) : EReal := m ((c : Thread nD τ).loc main_arg4) (ix3 1 k n)
abbrev WA (k : Fin 1024) (n : Fin 2048) : EReal := m ((c : Thread nD τ).loc main_arg5) (ix3 1 k n)
abbrev W (k : Fin 2048) (n : Fin 2048) : EReal := m ((c : Thread nD τ).loc main_arg6) (ix3 1 k n)
/-- The gain of the normalisation. -/
abbrev G (k : Fin 2048) : EReal := m ((c : Thread nD τ).loc main_arg7) (ix1 k)

/-- A row of a grid point's block, in the array. -/
def row (t : Fin cfg0.N) (r : Fin 256) : Fin 16384 :=
  ⟨256 * (grid0.coords t 0).val + r.val, by have := (grid0.coords t 0).isLt; have : (grid0.coords t 0).val < 64 := this; omega⟩

/-- The gates of a grid point's block. -/
abbrev GH (t : Fin cfg0.N) (r : Fin 256) (n : Fin 2048) : EReal := P m c (row t r) ⟨6656 + n.val, by omega⟩
abbrev GA (t : Fin cfg0.N) (r : Fin 256) (n : Fin 2048) : EReal := P m c (row t r) ⟨8704 + n.val, by omega⟩

theorem stream_blk (t : Fin cfg0.N) (r : Fin 256) (k : Fin 2048) : iblk m c 0 t (ix2 r k) = X m c (row t r) k := by
  blk_ext [iblk, V_main_arg0, idx t, row]

theorem y_blk (t : Fin cfg0.N) (r : Fin 256) (k : Fin 1024) : iblk m c 1 t (ix2 r k) = Y m c (row t r) k := by
  blk_ext [iblk, V_main_arg2, idx t, row]

theorem a_blk (t : Fin cfg0.N) (r : Fin 256) (k : Fin 1024) : iblk m c 2 t (ix2 r k) = A m c (row t r) k := by
  blk_ext [iblk, V_main_arg3, idx t, row]

theorem gates_blk (t : Fin cfg0.N) (r : Fin 256) (e : Fin 512) :
    iblk m c 3 t (ix2 r e) = GH m c t r (lane 0 e) ∧ iblk m c 4 t (ix2 r e) = GH m c t r (lane 1 e) ∧
    iblk m c 5 t (ix2 r e) = GH m c t r (lane 2 e) ∧ iblk m c 6 t (ix2 r e) = GH m c t r (lane 3 e) ∧
    iblk m c 7 t (ix2 r e) = GA m c t r (lane 0 e) ∧ iblk m c 8 t (ix2 r e) = GA m c t r (lane 1 e) ∧
    iblk m c 9 t (ix2 r e) = GA m c t r (lane 2 e) ∧ iblk m c 10 t (ix2 r e) = GA m c t r (lane 3 e) := by
  refine ⟨?_, ?_, ?_, ?_, ?_, ?_, ?_, ?_⟩ <;> blk_ext [iblk, V_main_arg1, idx t, row, lane]

theorem wh_blk (t : Fin cfg0.N) (k : Fin 1024) (n : Fin 2048) : iblk m c 11 t (ix3 0 k n) = WH m c k n := by
  have e : iblk m c 11 t (ix3 0 k n) = V m c main_v0 (ix3 1 k n) := by blk_ext [iblk, idx t]
  rw [e]
  entry_read
  pointwise []

theorem wa_blk (t : Fin cfg0.N) (k : Fin 1024) (n : Fin 2048) : iblk m c 12 t (ix3 0 k n) = WA m c k n := by
  have e : iblk m c 12 t (ix3 0 k n) = V m c main_v1 (ix3 1 k n) := by blk_ext [iblk, idx t]
  rw [e]
  entry_read
  pointwise []

theorem w_blk (t : Fin cfg0.N) (k : Fin 2048) (n : Fin 2048) : iblk m c 13 t (ix3 0 k n) = W m c k n := by
  have e : iblk m c 13 t (ix3 0 k n) = V m c main_v2 (ix3 1 k n) := by blk_ext [iblk, idx t]
  rw [e]
  entry_read
  pointwise []

theorem gain_blk (t : Fin cfg0.N) (k : Fin 2048) : iblk m c 14 t (ix2 0 k) = G m c k := by
  have e : iblk m c 14 t (ix2 0 k) = V m c main_v3 (ix2 0 k) := by blk_ext [iblk, idx t]
  rw [e]
  entry_read
  pointwise []

/-- The row that leaves the layer, of a grid point's blocks. -/
theorem leaving_blk (t : Fin cfg0.N) (r : Fin 256) :
    stream (fun n => (iblk m c 0 t (ix2 r n) : EReal)) (mergedRows (iblk m c 1 t) (iblk m c 2 t) (iblk m c 11 t) (iblk m c 12 t) (GH m c t) (GA m c t) r)
      (fun j n => (iblk m c 13 t (ix3 0 j n) : EReal)) = leaving (X m c) (P m c) (Y m c) (A m c) (WH m c) (WA m c) (W m c) (row t r) := by
  unfold leaving mergedRows
  rw [show (fun n => (iblk m c 0 t (ix2 r n) : EReal)) = X m c (row t r) from funext (stream_blk m c t r),
    show (fun n => (iblk m c 1 t (ix2 r n) : EReal)) = Y m c (row t r) from funext (y_blk m c t r),
    show (fun n => (iblk m c 2 t (ix2 r n) : EReal)) = A m c (row t r) from funext (a_blk m c t r),
    show (fun n k => (iblk m c 11 t (ix3 0 n k) : EReal)) = WH m c from funext fun n => funext (wh_blk m c t n),
    show (fun n k => (iblk m c 12 t (ix3 0 n k) : EReal)) = WA m c from funext fun n => funext (wa_blk m c t n),
    show (fun n k => (iblk m c 13 t (ix3 0 n k) : EReal)) = W m c from funext fun n => funext (w_blk m c t n)]

/-- A grid point writes its rows of the result. -/
theorem block_eq (t : Fin cfg0.N) (r : Fin 256) (k : Fin 2048) :
    (outsAt0 m c t (ix2 r k) : EReal) = scaled (leaving (X m c) (P m c) (Y m c) (A m c) (WH m c) (WA m c) (W m c) (row t r)) (G m c) k := by
  unfold outsAt0
  refine (out_eq c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (GH m c t) (GA m c t)
    (fun r e => (gates_blk m c t r e).1) (fun r e => (gates_blk m c t r e).2.1) (fun r e => (gates_blk m c t r e).2.2.1)
    (fun r e => (gates_blk m c t r e).2.2.2.1) (fun r e => (gates_blk m c t r e).2.2.2.2.1) (fun r e => (gates_blk m c t r e).2.2.2.2.2.1)
    (fun r e => (gates_blk m c t r e).2.2.2.2.2.2.1) (fun r e => (gates_blk m c t r e).2.2.2.2.2.2.2) r k).trans ?_
  exact congrArg₂ (fun x g => scaled x g k) (leaving_blk m c t r) (funext (gain_blk m c t))

/-- The kernel's output array is the normalised stream. -/
theorem array_eq : (dats m 0 c).arrAt 15 cfg0.N =
    fun i => scaled (leaving (X m c) (P m c) (Y m c) (A m c) (WH m c) (WA m c) (W m c) (i 0)) (G m c) (i 1) := by
  refine (dats m 0 c).arrAt_eq_of_covers 15 _ (by decide +kernel) fun t hf y => ?_
  let r : Fin 256 := ⟨(y 0).val, (y 0).isLt⟩
  let k : Fin 2048 := ⟨(y 1).val, (y 1).isLt⟩
  have hy : y = ix2 r k := by funext a; fin_cases a <;> rfl
  refine Eq.trans ?_ (b := scaled (leaving (X m c) (P m c) (Y m c) (A m c) (WH m c) (WA m c) (W m c) (row t r)) (G m c) k) ?_
  · rw [hy, after0_15]
    have e := block_eq m c t r k
    generalize outsAt0 m c t = o at e ⊢
    exact e
  · clear hf
    have h0 : ((((cfg0.win 15).blk t).view.emb y) 0 : ℕ) = (row t r).val := by
      blk_simp [idx t, row, r]
      exact Nat.add_right_cancel_iff.mpr (Nat.mul_comm _ _)
    have h1 : ((((cfg0.win 15).blk t).view.emb y) 1 : ℕ) = k.val := by
      blk_simp [idx t, k]
    exact congrArg₂ (fun r k => scaled (leaving (X m c) (P m c) (Y m c) (A m c) (WH m c) (WA m c) (W m c) r) (G m c) k) (Fin.ext h0.symm) (Fin.ext h1.symm)

end Kernel

section Reference

open Cert.MergeRefIdeal Cert.MergeRefIdeal.Gen Cert.MergeRefIdeal.Read

variable (x0 : (⟨S16384x2048, .f32⟩ : BufTy).Contents (Elt Ideal)) (x1 : (⟨S16384x10752, .f32⟩ : BufTy).Contents (Elt Ideal))
  (x2 x3 : (⟨S16384x1024, .bf16⟩ : BufTy).Contents (Elt Ideal)) (x4 x5 : (⟨S2x1024x2048, .f32⟩ : BufTy).Contents (Elt Ideal))
  (x6 : (⟨S2x2048x2048, .f32⟩ : BufTy).Contents (Elt Ideal)) (x7 : (⟨S2048, .f32⟩ : BufTy).Contents (Elt Ideal))

/-- The reference's gate of the first branch. -/
theorem ref_gate_y (r : Fin 16384) (n : Fin 2048) :
    (val_main_v19 (F := Ideal) x1 (ix2 r n) : EReal) = Ideal.logistic (x1 (ix2 r ⟨6656 + n.val, by omega⟩)) := by
  unfold val_main_v19 val_main_v18 val_main_cst_0 val_main_v17 val_main_v16 val_main_cst val_main_v15 val_main_v14 val_main_v12
  pointwise []
  simp only [Ideal.logistic, Ideal.ofBits_one_f32]

/-- The reference's gate of the second branch. -/
theorem ref_gate_a (r : Fin 16384) (n : Fin 2048) :
    (val_main_v28 (F := Ideal) x1 (ix2 r n) : EReal) = Ideal.logistic (x1 (ix2 r ⟨8704 + n.val, by omega⟩)) := by
  unfold val_main_v28 val_main_v27 val_main_cst_2 val_main_v26 val_main_v25 val_main_cst_1 val_main_v24 val_main_v23 val_main_v13
  pointwise []
  simp only [Ideal.logistic, Ideal.ofBits_one_f32]

/-- The reference's merged rows. -/
theorem ref_merged (r : Fin 16384) (n : Fin 2048) :
    (val_main_v32 (F := Ideal) x1 x2 x3 x4 x5 (ix2 r n) : EReal) =
      merged (fun n => x1 (ix2 r ⟨6656 + n.val, by omega⟩)) (fun n => x1 (ix2 r ⟨8704 + n.val, by omega⟩)) (fun k => x2 (ix2 r k)) (fun k => x3 (ix2 r k))
        (fun k n => x4 (ix3 1 k n)) (fun k n => x5 (ix3 1 k n)) n := by
  have e : (val_main_v32 (F := Ideal) x1 x2 x3 x4 x5 (ix2 r n) : EReal) =
      (val_main_v19 (F := Ideal) x1 (ix2 r n) : EReal) * (∑ k : Fin 1024, (x2 (ix2 r k) : EReal) * (x4 (ix3 1 k n) : EReal)) +
        (val_main_v28 (F := Ideal) x1 (ix2 r n) : EReal) * ∑ k : Fin 1024, (x3 (ix2 r k) : EReal) * (x5 (ix3 1 k n) : EReal) := by
    unfold val_main_v32 val_main_v31 val_main_v30 val_main_v29 val_main_v22 val_main_v21 val_main_v20 val_main_v3 val_main_v2 val_main_v1 val_main_v0
    generalize val_main_v19 (F := Ideal) x1 = g
    generalize val_main_v28 (F := Ideal) x1 = h
    pointwise []
  rw [e, ref_gate_y, ref_gate_a]
  rfl

/-- The reference's stream. -/
theorem ref_leaving (r : Fin 16384) (k : Fin 2048) :
    (val_main_v34 (F := Ideal) x0 x1 x2 x3 x4 x5 x6 (ix2 r k) : EReal) =
      leaving (fun r k => x0 (ix2 r k)) (fun r k => x1 (ix2 r k)) (fun r k => x2 (ix2 r k)) (fun r k => x3 (ix2 r k))
        (fun k n => x4 (ix3 1 k n)) (fun k n => x5 (ix3 1 k n)) (fun k n => x6 (ix3 1 k n)) r k := by
  have e : (val_main_v34 (F := Ideal) x0 x1 x2 x3 x4 x5 x6 (ix2 r k) : EReal) =
      (x0 (ix2 r k) : EReal) + ∑ j : Fin 2048, (val_main_v32 (F := Ideal) x1 x2 x3 x4 x5 (ix2 r j) : EReal) * (x6 (ix3 1 j k) : EReal) := by
    unfold val_main_v34 val_main_v33 val_main_v5 val_main_v4
    generalize val_main_v32 (F := Ideal) x1 x2 x3 x4 x5 = u
    pointwise []
  rw [e]
  simp only [ref_merged]
  rfl

/-- The reference's result. -/
theorem ref_eq (r : Fin 16384) (k : Fin 2048) :
    (val_main_v47 (F := Ideal) x0 x1 x2 x3 x4 x5 x6 x7 (ix2 r k) : EReal) =
      scaled (leaving (fun r k => x0 (ix2 r k)) (fun r k => x1 (ix2 r k)) (fun r k => x2 (ix2 r k)) (fun r k => x3 (ix2 r k))
        (fun k n => x4 (ix3 1 k n)) (fun k n => x5 (ix3 1 k n)) (fun k n => x6 (ix3 1 k n)) r) (fun k => x7 (ix1 k)) k := by
  have e : (val_main_v47 (F := Ideal) x0 x1 x2 x3 x4 x5 x6 x7 (ix2 r k) : EReal) =
      scaled (fun k => val_main_v34 (F := Ideal) x0 x1 x2 x3 x4 x5 x6 (ix2 r k)) (fun k => x7 (ix1 k)) k := by
    unfold val_main_v47 val_main_v46 val_main_v45 val_main_v44 val_main_v43 val_main_v42 val_main_v41 val_main_v40 val_main_cst_5 val_main_v39 val_main_v38 val_main_cst_4
      val_main_v37 val_main_v36 val_main_cst_3 val_main_v35 scaled
    generalize val_main_v34 (F := Ideal) x0 x1 x2 x3 x4 x5 x6 = u
    pointwise []
  rw [e]
  exact congrArg (fun x => scaled x (fun k => x7 (ix1 k)) k) (funext fun k => ref_leaving x0 x1 x2 x3 x4 x5 x6 r k)

end Reference

end Cert.Proof.MergeLast

namespace Cert.Proof

open Idealize.ShloMosaic Idealize.ShloMosaic.TcCoe Idealize.SL.Sem

/-- The last layer's merge computes its reference's result over the extended reals. -/
theorem merge : Cert.algebraic_MergeIdeal_MergeRefIdeal := by
  intro m g m' g' hp hagree
  refine ⟨fun c => (Cert.MergeIdeal.Gen.dats m 0 c).arrAt 15 Cert.MergeIdeal.cfg0.N, Cert.MergeIdeal.Value.run_blocks m g, ?_⟩
  refine (θ_run _ _ _).mono (fun r h c => ⟨(h c).1.trans ?_, (h c).2⟩) (Cert.MergeRefIdeal.Value.run m' g')
  obtain ⟨e0, e1, e2, e3, e4, e5, e6, e7⟩ := hagree c
  rw [Cert.MergeRefIdeal.Read.val_main_v47_eq, e0, e1, e2, e3, e4, e5, e6, e7]
  refine Eq.trans ?_ (MergeLast.array_eq m c).symm
  funext i
  obtain ⟨r, n, rfl⟩ : ∃ r n, i = ix2 r n := ⟨i 0, i 1, funext fun a => by fin_cases a <;> rfl⟩
  exact MergeLast.ref_eq _ _ _ _ _ _ _ _ r n

end Cert.Proof

end
-- ==== Proof.MergeOneClaim.lean ====
module

public import proofs.«01_k».proof.Defs
public import proofs.«01_k».proof.Proof.Gen.MergeOneIdeal.Value
public import proofs.«01_k».proof.Proof.Gen.MergeOneRefIdeal.Run
public import proofs.«01_k».proof.Proof.Gen.MergeOneRefIdeal.Read
public import proofs.«01_k».proof.Proof.LayerRows
public import proofs.«01_k».proof.Proof.MergeClaim
public import Idealize.ShloMosaic.Lib.Pipeline.ValueKit
public import Idealize.ShloMosaic.Lib.Claim

/-!
  The first layer's merge, over the extended reals. Its kernel merges as the last layer's does
  (MergeClaim.lean), with the first layer's weights; it writes the stream, and the stream normalised by
  the second layer's gain. Both are the reference's.
-/

@[expose] public section

set_option maxRecDepth 65536

noncomputable section

namespace Cert.Proof.MergeFirst

open Idealize.ShloMosaic Idealize.ShloMosaic.TcCoe Idealize.SL.Sem Cert.Proof.Merge
open Cert.Proof.MergeLast (mergedRows cols_apply)

section Kernel

open Cert.MergeOneIdeal Cert.MergeOneIdeal.Gen

section Window

/-- Each block of columns is kept as the last layer's kernel keeps its first. -/
theorem first_eq (y a : Vec Ideal S256x1024 .bf16) (wh wa : Vec Ideal S1x1024x512 .bf16) (g h : Vec Ideal S256x512 .f32) :
    k0_pay4 y a wh wa g h = Cert.MergeIdeal.Gen.k0_pay3 y a wh wa g h := rfl

theorem second_eq (y a : Vec Ideal S256x1024 .bf16) (wh wa : Vec Ideal S1x1024x512 .bf16) (g h : Vec Ideal S256x512 .f32) :
    k0_pay7 (k0_pay5 a wa) (k0_pay6 y wh g) h = Cert.MergeIdeal.Gen.k0_pay3 y a wh wa g h := rfl

theorem third_eq (y a : Vec Ideal S256x1024 .bf16) (wh wa : Vec Ideal S1x1024x512 .bf16) (g h : Vec Ideal S256x512 .f32) :
    k0_pay8 y a wh wa g h = Cert.MergeIdeal.Gen.k0_pay3 y a wh wa g h := rfl

theorem fourth_eq (y a : Vec Ideal S256x1024 .bf16) (wh wa : Vec Ideal S1x1024x512 .bf16) (g h : Vec Ideal S256x512 .f32) :
    k0_pay1 (k0_pay9 y wh) (k0_pay10 a wa) g h = Cert.MergeIdeal.Gen.k0_pay3 y a wh wa g h := rfl

/-- The stream that the kernel writes, of the merged rows it keeps. -/
theorem stream_apply (x : Vec Ideal S256x2048 .f32) (s : Vec Ideal S256x2048 .bf16) (w : Vec Ideal S1x2048x2048 .bf16) (r : Fin 256) (k : Fin 2048) :
    (k0_pay2 x s w (ix2 r k) : EReal) = stream (fun n => x (ix2 r n)) (fun n => s (ix2 r n)) (fun j n => w (ix3 0 j n)) k := by
  unfold k0_pay2 stream
  pointwise []

/-- The normalised stream that it writes. -/
theorem scaled_apply (x : Vec Ideal S256x2048 .f32) (s : Vec Ideal S256x2048 .bf16) (w : Vec Ideal S1x2048x2048 .bf16) (g : Vec Ideal S1x2048 .f32)
    (r : Fin 256) (k : Fin 2048) :
    (k0_pay3 x s w g (ix2 r k) : EReal) =
      scaled (stream (fun n => x (ix2 r n)) (fun n => s (ix2 r n)) (fun j n => w (ix3 0 j n))) (fun n => g (ix2 0 n)) k := by
  unfold k0_pay3 k0_pay2 scaled stream
  pointwise []

variable (c : Dev nD) (i : grid0.Coords)
  (arg1 : Memref sig .tc .vmem S256x2048 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S256x512 .f32) (harg4 : arg4.IsWhole)
  (arg5 : Memref sig .tc .vmem S256x512 .f32) (harg5 : arg5.IsWhole)
  (arg6 : Memref sig .tc .vmem S256x512 .f32) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S1x1024x2048 .bf16) (harg12 : arg12.IsWhole)
  (arg13 : Memref sig .tc .vmem S1x1024x2048 .bf16) (harg13 : arg13.IsWhole)
  (arg14 : Memref sig .tc .vmem S1x2048x2048 .bf16) (harg14 : arg14.IsWhole)
  (arg15 : Memref sig .tc .vmem S1x2048 .f32) (harg15 : arg15.IsWhole)
  (arg16 : Memref sig .tc .vmem S256x2048 .f32) (harg16 : arg16.IsWhole)
  (arg17 : Memref sig .tc .vmem S256x2048 .bf16) (harg17 : arg17.IsWhole)
  (arg18 : Memref sig .tc .vmem S256x2048 .bf16) (harg18 : arg18.IsWhole)
  (x0 : Vec Ideal S256x2048 .f32) (x1 : Vec Ideal S256x1024 .bf16) (x2 : Vec Ideal S256x1024 .bf16) (x3 : Vec Ideal S256x512 .f32) (x4 : Vec Ideal S256x512 .f32)
  (x5 : Vec Ideal S256x512 .f32) (x6 : Vec Ideal S256x512 .f32) (x7 : Vec Ideal S256x512 .f32) (x8 : Vec Ideal S256x512 .f32) (x9 : Vec Ideal S256x512 .f32)
  (x10 : Vec Ideal S256x512 .f32) (x11 : Vec Ideal S1x1024x2048 .bf16) (x12 : Vec Ideal S1x1024x2048 .bf16) (x13 : Vec Ideal S1x2048x2048 .bf16) (x14 : Vec Ideal S1x2048 .f32)

/-- The stream that a grid point writes, from its windows' blocks. -/
theorem out_stream (GH GA : Fin 256 → Fin 2048 → EReal)
    (h3 : ∀ r e, (x3 (ix2 r e) : EReal) = GH r (lane 0 e)) (h4 : ∀ r e, (x4 (ix2 r e) : EReal) = GH r (lane 1 e))
    (h5 : ∀ r e, (x5 (ix2 r e) : EReal) = GH r (lane 2 e)) (h6 : ∀ r e, (x6 (ix2 r e) : EReal) = GH r (lane 3 e))
    (h7 : ∀ r e, (x7 (ix2 r e) : EReal) = GA r (lane 0 e)) (h8 : ∀ r e, (x8 (ix2 r e) : EReal) = GA r (lane 1 e))
    (h9 : ∀ r e, (x9 (ix2 r e) : EReal) = GA r (lane 2 e)) (h10 : ∀ r e, (x10 (ix2 r e) : EReal) = GA r (lane 3 e))
    (r : Fin 256) (k : Fin 2048) :
    (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 (ix2 r k) : EReal) =
      stream (fun n => x0 (ix2 r n)) (mergedRows x1 x2 x11 x12 GH GA r) (fun j n => x13 (ix3 0 j n)) k := by
  frame_out
  refine (stream_apply _ _ _ r k).trans ?_
  refine congrArg (fun u => stream (fun n => x0 (ix2 r n)) u (fun j n => x13 (ix3 0 j n)) k) (funext fun n => ?_)
  rw [first_eq, second_eq, third_eq, fourth_eq]
  exact load_merged _ (mergedRows x1 x2 x11 x12 GH GA) _ _ _ _
    (cols_apply x1 x2 x11 x12 GH GA 0 x3 x7 h3 h7 _ rfl _) (cols_apply x1 x2 x11 x12 GH GA 1 x4 x8 h4 h8 _ rfl _)
    (cols_apply x1 x2 x11 x12 GH GA 2 x5 x9 h5 h9 _ rfl _) (cols_apply x1 x2 x11 x12 GH GA 3 x6 x10 h6 h10 _ rfl _) _ _ _ _ _ r n

/-- The normalised stream that it writes. -/
theorem out_scaled (GH GA : Fin 256 → Fin 2048 → EReal)
    (h3 : ∀ r e, (x3 (ix2 r e) : EReal) = GH r (lane 0 e)) (h4 : ∀ r e, (x4 (ix2 r e) : EReal) = GH r (lane 1 e))
    (h5 : ∀ r e, (x5 (ix2 r e) : EReal) = GH r (lane 2 e)) (h6 : ∀ r e, (x6 (ix2 r e) : EReal) = GH r (lane 3 e))
    (h7 : ∀ r e, (x7 (ix2 r e) : EReal) = GA r (lane 0 e)) (h8 : ∀ r e, (x8 (ix2 r e) : EReal) = GA r (lane 1 e))
    (h9 : ∀ r e, (x9 (ix2 r e) : EReal) = GA r (lane 2 e)) (h10 : ∀ r e, (x10 (ix2 r e) : EReal) = GA r (lane 3 e))
    (r : Fin 256) (k : Fin 2048) :
    (out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 (ix2 r k) : EReal) =
      scaled (stream (fun n => x0 (ix2 r n)) (mergedRows x1 x2 x11 x12 GH GA r) (fun j n => x13 (ix3 0 j n))) (fun n => x14 (ix2 0 n)) k := by
  frame_out
  refine (scaled_apply _ _ _ _ r k).trans ?_
  refine congrArg (fun u => scaled (stream (fun n => x0 (ix2 r n)) u (fun j n => x13 (ix3 0 j n))) (fun n => x14 (ix2 0 n)) k) (funext fun n => ?_)
  rw [first_eq, second_eq, third_eq, fourth_eq]
  exact load_merged _ (mergedRows x1 x2 x11 x12 GH GA) _ _ _ _
    (cols_apply x1 x2 x11 x12 GH GA 0 x3 x7 h3 h7 _ rfl _) (cols_apply x1 x2 x11 x12 GH GA 1 x4 x8 h4 h8 _ rfl _)
    (cols_apply x1 x2 x11 x12 GH GA 2 x5 x9 h5 h9 _ rfl _) (cols_apply x1 x2 x11 x12 GH GA 3 x6 x10 h6 h10 _ rfl _) _ _ _ _ _ r n

end Window

variable (m : (ℓ : Loc nD τ sig) → Buf (Elt Ideal) ℓ) (c : Dev nD)

/-- Where each window's block lies at a grid point. -/
theorem idx : ∀ t : Fin cfg0.N, win0_0.index t = ![(grid0.coords t 0).val, 0] ∧ win0_1.index t = ![(grid0.coords t 0).val, 0] ∧
    win0_2.index t = ![(grid0.coords t 0).val, 0] ∧ win0_3.index t = ![(grid0.coords t 0).val, 13] ∧
    win0_4.index t = ![(grid0.coords t 0).val, 14] ∧ win0_5.index t = ![(grid0.coords t 0).val, 15] ∧
    win0_6.index t = ![(grid0.coords t 0).val, 16] ∧ win0_7.index t = ![(grid0.coords t 0).val, 17] ∧
    win0_8.index t = ![(grid0.coords t 0).val, 18] ∧ win0_9.index t = ![(grid0.coords t 0).val, 19] ∧
    win0_10.index t = ![(grid0.coords t 0).val, 20] ∧ win0_11.index t = ![0, 0, 0] ∧ win0_12.index t = ![0, 0, 0] ∧
    win0_13.index t = ![0, 0, 0] ∧ win0_14.index t = ![0, 0] ∧ win0_15.index t = ![(grid0.coords t 0).val, 0] ∧
    win0_16.index t = ![(grid0.coords t 0).val, 0] := by decide +kernel

/-- The stream that enters the layer. -/
abbrev X (r : Fin 16384) (k : Fin 2048) : EReal := m ((c : Thread nD τ).loc main_arg0) (ix2 r k)
/-- The projected stream, which holds the gates. -/
abbrev P (r : Fin 16384) (n : Fin 10752) : EReal := m ((c : Thread nD τ).loc main_arg1) (ix2 r n)
/-- The two branches. -/
abbrev Y (r : Fin 16384) (k : Fin 1024) : EReal := m ((c : Thread nD τ).loc main_arg2) (ix2 r k)
abbrev A (r : Fin 16384) (k : Fin 1024) : EReal := m ((c : Thread nD τ).loc main_arg3) (ix2 r k)
/-- Their weights and the output projection's, of the first layer. -/
abbrev WH (k : Fin 1024) (n : Fin 2048) : EReal := m ((c : Thread nD τ).loc main_arg4) (ix3 0 k n)
abbrev WA (k : Fin 1024) (n : Fin 2048) : EReal := m ((c : Thread nD τ).loc main_arg5) (ix3 0 k n)
abbrev W (k : Fin 2048) (n : Fin 2048) : EReal := m ((c : Thread nD τ).loc main_arg6) (ix3 0 k n)
/-- The second layer's gain. -/
abbrev G (k : Fin 2048) : EReal := m ((c : Thread nD τ).loc main_arg7) (ix2 1 k)

/-- A row of a grid point's block, in the array. -/
def row (t : Fin cfg0.N) (r : Fin 256) : Fin 16384 :=
  ⟨256 * (grid0.coords t 0).val + r.val, by have := (grid0.coords t 0).isLt; have : (grid0.coords t 0).val < 64 := this; omega⟩

/-- The gates of a grid point's block. -/
abbrev GH (t : Fin cfg0.N) (r : Fin 256) (n : Fin 2048) : EReal := P m c (row t r) ⟨6656 + n.val, by omega⟩
abbrev GA (t : Fin cfg0.N) (r : Fin 256) (n : Fin 2048) : EReal := P m c (row t r) ⟨8704 + n.val, by omega⟩

theorem stream_blk (t : Fin cfg0.N) (r : Fin 256) (k : Fin 2048) : iblk m c 0 t (ix2 r k) = X m c (row t r) k := by
  blk_ext [iblk, V_main_arg0, idx t, row]

theorem y_blk (t : Fin cfg0.N) (r : Fin 256) (k : Fin 1024) : iblk m c 1 t (ix2 r k) = Y m c (row t r) k := by
  blk_ext [iblk, V_main_arg2, idx t, row]

theorem a_blk (t : Fin cfg0.N) (r : Fin 256) (k : Fin 1024) : iblk m c 2 t (ix2 r k) = A m c (row t r) k := by
  blk_ext [iblk, V_main_arg3, idx t, row]

theorem gates_blk (t : Fin cfg0.N) (r : Fin 256) (e : Fin 512) :
    iblk m c 3 t (ix2 r e) = GH m c t r (lane 0 e) ∧ iblk m c 4 t (ix2 r e) = GH m c t r (lane 1 e) ∧
    iblk m c 5 t (ix2 r e) = GH m c t r (lane 2 e) ∧ iblk m c 6 t (ix2 r e) = GH m c t r (lane 3 e) ∧
    iblk m c 7 t (ix2 r e) = GA m c t r (lane 0 e) ∧ iblk m c 8 t (ix2 r e) = GA m c t r (lane 1 e) ∧
    iblk m c 9 t (ix2 r e) = GA m c t r (lane 2 e) ∧ iblk m c 10 t (ix2 r e) = GA m c t r (lane 3 e) := by
  refine ⟨?_, ?_, ?_, ?_, ?_, ?_, ?_, ?_⟩ <;> blk_ext [iblk, V_main_arg1, idx t, row, lane]

theorem wh_blk (t : Fin cfg0.N) (k : Fin 1024) (n : Fin 2048) : iblk m c 11 t (ix3 0 k n) = WH m c k n := by
  have e : iblk m c 11 t (ix3 0 k n) = V m c main_v0 (ix3 0 k n) := by blk_ext [iblk, idx t]
  rw [e]
  entry_read
  pointwise []

theorem wa_blk (t : Fin cfg0.N) (k : Fin 1024) (n : Fin 2048) : iblk m c 12 t (ix3 0 k n) = WA m c k n := by
  have e : iblk m c 12 t (ix3 0 k n) = V m c main_v1 (ix3 0 k n) := by blk_ext [iblk, idx t]
  rw [e]
  entry_read
  pointwise []

theorem w_blk (t : Fin cfg0.N) (k : Fin 2048) (n : Fin 2048) : iblk m c 13 t (ix3 0 k n) = W m c k n := by
  have e : iblk m c 13 t (ix3 0 k n) = V m c main_v2 (ix3 0 k n) := by blk_ext [iblk, idx t]
  rw [e]
  entry_read
  pointwise []

theorem gain_blk (t : Fin cfg0.N) (k : Fin 2048) : iblk m c 14 t (ix2 0 k) = G m c k := by
  have e : iblk m c 14 t (ix2 0 k) = V m c main_v5 (ix2 0 k) := by blk_ext [iblk, idx t]
  rw [e]
  entry_read
  pointwise []

/-- The row that leaves the layer, of a grid point's blocks. -/
theorem leaving_blk (t : Fin cfg0.N) (r : Fin 256) :
    stream (fun n => (iblk m c 0 t (ix2 r n) : EReal)) (mergedRows (iblk m c 1 t) (iblk m c 2 t) (iblk m c 11 t) (iblk m c 12 t) (GH m c t) (GA m c t) r)
      (fun j n => (iblk m c 13 t (ix3 0 j n) : EReal)) = leaving (X m c) (P m c) (Y m c) (A m c) (WH m c) (WA m c) (W m c) (row t r) := by
  unfold leaving mergedRows
  rw [show (fun n => (iblk m c 0 t (ix2 r n) : EReal)) = X m c (row t r) from funext (stream_blk m c t r),
    show (fun n => (iblk m c 1 t (ix2 r n) : EReal)) = Y m c (row t r) from funext (y_blk m c t r),
    show (fun n => (iblk m c 2 t (ix2 r n) : EReal)) = A m c (row t r) from funext (a_blk m c t r),
    show (fun n k => (iblk m c 11 t (ix3 0 n k) : EReal)) = WH m c from funext fun n => funext (wh_blk m c t n),
    show (fun n k => (iblk m c 12 t (ix3 0 n k) : EReal)) = WA m c from funext fun n => funext (wa_blk m c t n),
    show (fun n k => (iblk m c 13 t (ix3 0 n k) : EReal)) = W m c from funext fun n => funext (w_blk m c t n)]

/-- A grid point writes its rows of the stream. -/
theorem block_stream (t : Fin cfg0.N) (r : Fin 256) (k : Fin 2048) :
    ((outsAt0 m c t).1 (ix2 r k) : EReal) = leaving (X m c) (P m c) (Y m c) (A m c) (WH m c) (WA m c) (W m c) (row t r) k := by
  unfold outsAt0
  dsimp only
  refine (out_stream c (grid0.coords t) _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (GH m c t) (GA m c t)
    (fun r e => (gates_blk m c t r e).1) (fun r e => (gates_blk m c t r e).2.1) (fun r e => (gates_blk m c t r e).2.2.1)
    (fun r e => (gates_blk m c t r e).2.2.2.1) (fun r e => (gates_blk m c t r e).2.2.2.2.1) (fun r e => (gates_blk m c t r e).2.2.2.2.2.1)
    (fun r e => (gates_blk m c t r e).2.2.2.2.2.2.1) (fun r e => (gates_blk m c t r e).2.2.2.2.2.2.2) r k).trans ?_
  exact congrFun (leaving_blk m c t r) k

/-- A grid point writes its rows of the normalised stream. -/
theorem block_scaled (t : Fin cfg0.N) (r : Fin 256) (k : Fin 2048) :
    ((outsAt0 m c t).2 (ix2 r k) : EReal) = scaled (leaving (X m c) (P m c) (Y m c) (A m c) (WH m c) (WA m c) (W m c) (row t r)) (G m c) k := by
  unfold outsAt0
  dsimp only
  refine (out_scaled c (grid0.coords t) _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (GH m c t) (GA m c t)
    (fun r e => (gates_blk m c t r e).1) (fun r e => (gates_blk m c t r e).2.1) (fun r e => (gates_blk m c t r e).2.2.1)
    (fun r e => (gates_blk m c t r e).2.2.2.1) (fun r e => (gates_blk m c t r e).2.2.2.2.1) (fun r e => (gates_blk m c t r e).2.2.2.2.2.1)
    (fun r e => (gates_blk m c t r e).2.2.2.2.2.2.1) (fun r e => (gates_blk m c t r e).2.2.2.2.2.2.2) r k).trans ?_
  exact congrArg₂ (fun x g => scaled x g k) (leaving_blk m c t r) (funext (gain_blk m c t))

/-- The kernel's first output array is the stream. -/
theorem array_stream : (dats m 0 c).arrAt 15 cfg0.N = fun i => leaving (X m c) (P m c) (Y m c) (A m c) (WH m c) (WA m c) (W m c) (i 0) (i 1) := by
  refine (dats m 0 c).arrAt_eq_of_covers 15 _ (by decide +kernel) fun t hf y => ?_
  let r : Fin 256 := ⟨(y 0).val, (y 0).isLt⟩
  let k : Fin 2048 := ⟨(y 1).val, (y 1).isLt⟩
  have hy : y = ix2 r k := by funext a; fin_cases a <;> rfl
  refine Eq.trans ?_ (b := leaving (X m c) (P m c) (Y m c) (A m c) (WH m c) (WA m c) (W m c) (row t r) k) ?_
  · rw [hy, after0_15]
    have e := block_stream m c t r k
    generalize (outsAt0 m c t).1 = o at e ⊢
    exact e
  · clear hf
    have h0 : ((((cfg0.win 15).blk t).view.emb y) 0 : ℕ) = (row t r).val := by
      blk_simp [idx t, row, r]
      exact Nat.add_right_cancel_iff.mpr (Nat.mul_comm _ _)
    have h1 : ((((cfg0.win 15).blk t).view.emb y) 1 : ℕ) = k.val := by
      blk_simp [idx t, k]
    exact congrArg₂ (fun r k => leaving (X m c) (P m c) (Y m c) (A m c) (WH m c) (WA m c) (W m c) r k) (Fin.ext h0.symm) (Fin.ext h1.symm)

/-- Its second is the normalised stream. -/
theorem array_scaled : (dats m 0 c).arrAt 16 cfg0.N = fun i => scaled (leaving (X m c) (P m c) (Y m c) (A m c) (WH m c) (WA m c) (W m c) (i 0)) (G m c) (i 1) := by
  refine (dats m 0 c).arrAt_eq_of_covers 16 _ (by decide +kernel) fun t hf y => ?_
  let r : Fin 256 := ⟨(y 0).val, (y 0).isLt⟩
  let k : Fin 2048 := ⟨(y 1).val, (y 1).isLt⟩
  have hy : y = ix2 r k := by funext a; fin_cases a <;> rfl
  refine Eq.trans ?_ (b := scaled (leaving (X m c) (P m c) (Y m c) (A m c) (WH m c) (WA m c) (W m c) (row t r)) (G m c) k) ?_
  · rw [hy, after0_16]
    have e := block_scaled m c t r k
    generalize (outsAt0 m c t).2 = o at e ⊢
    exact e
  · clear hf
    have h0 : ((((cfg0.win 16).blk t).view.emb y) 0 : ℕ) = (row t r).val := by
      blk_simp [idx t, row, r]
      exact Nat.add_right_cancel_iff.mpr (Nat.mul_comm _ _)
    have h1 : ((((cfg0.win 16).blk t).view.emb y) 1 : ℕ) = k.val := by
      blk_simp [idx t, k]
    exact congrArg₂ (fun r k => scaled (leaving (X m c) (P m c) (Y m c) (A m c) (WH m c) (WA m c) (W m c) r) (G m c) k) (Fin.ext h0.symm) (Fin.ext h1.symm)

end Kernel

section Reference

open Cert.MergeOneRefIdeal Cert.MergeOneRefIdeal.Gen Cert.MergeOneRefIdeal.Read

variable (x0 : (⟨S16384x2048, .f32⟩ : BufTy).Contents (Elt Ideal)) (x1 : (⟨S16384x10752, .f32⟩ : BufTy).Contents (Elt Ideal))
  (x2 x3 : (⟨S16384x1024, .bf16⟩ : BufTy).Contents (Elt Ideal)) (x4 x5 : (⟨S2x1024x2048, .f32⟩ : BufTy).Contents (Elt Ideal))
  (x6 : (⟨S2x2048x2048, .f32⟩ : BufTy).Contents (Elt Ideal)) (x7 : (⟨S2x2048, .f32⟩ : BufTy).Contents (Elt Ideal))

/-- The gates are those of the last layer's reference. -/
theorem ref_gate_y : val_main_v19 (F := Ideal) x1 = Cert.MergeRefIdeal.Read.val_main_v19 (F := Ideal) x1 := rfl

theorem ref_gate_a : val_main_v28 (F := Ideal) x1 = Cert.MergeRefIdeal.Read.val_main_v28 (F := Ideal) x1 := rfl

/-- The reference's merged rows. -/
theorem ref_merged (r : Fin 16384) (n : Fin 2048) :
    (val_main_v32 (F := Ideal) x1 x2 x3 x4 x5 (ix2 r n) : EReal) =
      merged (fun n => x1 (ix2 r ⟨6656 + n.val, by omega⟩)) (fun n => x1 (ix2 r ⟨8704 + n.val, by omega⟩)) (fun k => x2 (ix2 r k)) (fun k => x3 (ix2 r k))
        (fun k n => x4 (ix3 0 k n)) (fun k n => x5 (ix3 0 k n)) n := by
  have e : (val_main_v32 (F := Ideal) x1 x2 x3 x4 x5 (ix2 r n) : EReal) =
      (val_main_v19 (F := Ideal) x1 (ix2 r n) : EReal) * (∑ k : Fin 1024, (x2 (ix2 r k) : EReal) * (x4 (ix3 0 k n) : EReal)) +
        (val_main_v28 (F := Ideal) x1 (ix2 r n) : EReal) * ∑ k : Fin 1024, (x3 (ix2 r k) : EReal) * (x5 (ix3 0 k n) : EReal) := by
    unfold val_main_v32 val_main_v31 val_main_v30 val_main_v29 val_main_v22 val_main_v21 val_main_v20 val_main_v3 val_main_v2 val_main_v1 val_main_v0
    generalize val_main_v19 (F := Ideal) x1 = g
    generalize val_main_v28 (F := Ideal) x1 = h
    pointwise []
  rw [e, ref_gate_y, ref_gate_a, MergeLast.ref_gate_y, MergeLast.ref_gate_a]
  rfl

/-- The reference's stream. -/
theorem ref_leaving (r : Fin 16384) (k : Fin 2048) :
    (val_main_v34 (F := Ideal) x0 x1 x2 x3 x4 x5 x6 (ix2 r k) : EReal) =
      leaving (fun r k => x0 (ix2 r k)) (fun r k => x1 (ix2 r k)) (fun r k => x2 (ix2 r k)) (fun r k => x3 (ix2 r k))
        (fun k n => x4 (ix3 0 k n)) (fun k n => x5 (ix3 0 k n)) (fun k n => x6 (ix3 0 k n)) r k := by
  have e : (val_main_v34 (F := Ideal) x0 x1 x2 x3 x4 x5 x6 (ix2 r k) : EReal) =
      (x0 (ix2 r k) : EReal) + ∑ j : Fin 2048, (val_main_v32 (F := Ideal) x1 x2 x3 x4 x5 (ix2 r j) : EReal) * (x6 (ix3 0 j k) : EReal) := by
    unfold val_main_v34 val_main_v33 val_main_v5 val_main_v4
    generalize val_main_v32 (F := Ideal) x1 x2 x3 x4 x5 = u
    pointwise []
  rw [e]
  simp only [ref_merged]
  rfl

/-- The reference's normalised stream. -/
theorem ref_scaled (r : Fin 16384) (k : Fin 2048) :
    (val_main_v50 (F := Ideal) x0 x1 x2 x3 x4 x5 x6 x7 (ix2 r k) : EReal) =
      scaled (leaving (fun r k => x0 (ix2 r k)) (fun r k => x1 (ix2 r k)) (fun r k => x2 (ix2 r k)) (fun r k => x3 (ix2 r k))
        (fun k n => x4 (ix3 0 k n)) (fun k n => x5 (ix3 0 k n)) (fun k n => x6 (ix3 0 k n)) r) (fun k => x7 (ix2 1 k)) k := by
  have e : (val_main_v50 (F := Ideal) x0 x1 x2 x3 x4 x5 x6 x7 (ix2 r k) : EReal) =
      scaled (fun k => val_main_v34 (F := Ideal) x0 x1 x2 x3 x4 x5 x6 (ix2 r k)) (fun k => x7 (ix2 1 k)) k := by
    unfold val_main_v50 val_main_v49 val_main_v48 val_main_v47 val_main_v46 val_main_v45 val_main_v44 val_main_v43 val_main_v42 val_main_cst_5 val_main_v41
      val_main_v40 val_main_cst_4 val_main_v39 val_main_v38 val_main_cst_3 val_main_v37 val_main_v36 val_main_v35 scaled
    generalize val_main_v34 (F := Ideal) x0 x1 x2 x3 x4 x5 x6 = u
    pointwise []
  rw [e]
  exact congrArg (fun x => scaled x (fun k => x7 (ix2 1 k)) k) (funext fun k => ref_leaving x0 x1 x2 x3 x4 x5 x6 r k)

end Reference

end Cert.Proof.MergeFirst

namespace Cert.Proof

open Idealize.ShloMosaic Idealize.ShloMosaic.TcCoe Idealize.SL.Sem

/-- The first layer's merge computes its reference's results over the extended reals. -/
theorem mergeOne : Cert.algebraic_MergeOneIdeal_MergeOneRefIdeal := by
  intro m g m' g' hp hagree
  refine ⟨fun c => (Cert.MergeOneIdeal.Gen.dats m 0 c).arrAt 15 Cert.MergeOneIdeal.cfg0.N, fun c => (Cert.MergeOneIdeal.Gen.dats m 0 c).arrAt 16 Cert.MergeOneIdeal.cfg0.N,
    Cert.MergeOneIdeal.Value.run_blocks m g, ?_⟩
  refine (θ_run _ _ _).mono (fun r h c => ⟨(h c).1.trans ?_, (h c).2.1.trans ?_, (h c).2.2⟩) (Cert.MergeOneRefIdeal.Value.run m' g')
  · obtain ⟨e0, e1, e2, e3, e4, e5, e6, e7⟩ := hagree c
    rw [Cert.MergeOneRefIdeal.Read.val_main_v34_eq, e0, e1, e2, e3, e4, e5, e6]
    refine Eq.trans ?_ (MergeFirst.array_stream m c).symm
    funext i
    obtain ⟨r, n, rfl⟩ : ∃ r n, i = ix2 r n := ⟨i 0, i 1, funext fun a => by fin_cases a <;> rfl⟩
    exact MergeFirst.ref_leaving _ _ _ _ _ _ _ r n
  · obtain ⟨e0, e1, e2, e3, e4, e5, e6, e7⟩ := hagree c
    rw [Cert.MergeOneRefIdeal.Read.val_main_v50_eq, e0, e1, e2, e3, e4, e5, e6, e7]
    refine Eq.trans ?_ (MergeFirst.array_scaled m c).symm
    funext i
    obtain ⟨r, n, rfl⟩ : ∃ r n, i = ix2 r n := ⟨i 0, i 1, funext fun a => by fin_cases a <;> rfl⟩
    exact MergeFirst.ref_scaled _ _ _ _ _ _ _ _ r n

end Cert.Proof

end
-- ==== Proof.lean ====
/-
  The claim about the layer's kernels, put together.

  The frames of the kernels are the generated ones; those of the references are in RefFrames.lean.
  The equalities with the references are `Cert.Proof.attention` (AttnClaim.lean), `merge`
  (MergeClaim.lean), `mergeOne` (MergeOneClaim.lean), `normProject` (NormProjClaim.lean) and `project`
  (ProjClaim.lean).
-/
module

public import proofs.«01_k».proof.Defs
public import proofs.«01_k».proof.Proof.Gen.Attn.Frame
public import proofs.«01_k».proof.Proof.Gen.AttnIdeal.Frame
public import proofs.«01_k».proof.Proof.Gen.Merge.Frame
public import proofs.«01_k».proof.Proof.Gen.MergeIdeal.Frame
public import proofs.«01_k».proof.Proof.Gen.MergeOne.Frame
public import proofs.«01_k».proof.Proof.Gen.MergeOneIdeal.Frame
public import proofs.«01_k».proof.Proof.Gen.NormProj.Frame
public import proofs.«01_k».proof.Proof.Gen.NormProjIdeal.Frame
public import proofs.«01_k».proof.Proof.Gen.Proj.Frame
public import proofs.«01_k».proof.Proof.Gen.ProjIdeal.Frame
public import proofs.«01_k».proof.Proof.Gen.Pre_finite
public import proofs.«01_k».proof.Proof.RefFrames
public import proofs.«01_k».proof.Proof.AttnClaim
public import proofs.«01_k».proof.Proof.ProjClaim
public import proofs.«01_k».proof.Proof.NormProjClaim
public import proofs.«01_k».proof.Proof.MergeClaim
public import proofs.«01_k».proof.Proof.MergeOneClaim
public import Idealize.ShloMosaic.Lib.Claim
public import Idealize.ShloMosaic.Adequacy
public import Idealize.ShloMosaic.Init

@[expose] public section

noncomputable section

namespace Cert.Proof

open Idealize.ShloMosaic Idealize.SL.Sem

/-- The two constants of the window attention that the claim reads as reals, `log2 e` and the
scale of the scores, are the ones the kernel holds rounded. -/
theorem preserves_attention : Cert.preserves_Attn_AttnIdeal :=
  ⟨IdealRules.named_const.statement Cert.AttnIdeal.κ "log2e" .f32 0x3FB8AA3B#32 _ rfl,
    IdealRules.named_const.statement Cert.AttnIdeal.κ "c" .f32 0x3E0293EE#32 _ rfl⟩

/-- The whole claim: every program runs to the end leaving its arguments alone, the readings over
the extended reals are those of the kernels, and the results are the references' results. -/
theorem claim : Cert.Claim :=
  ⟨Cert.Attn.Gen.facts,
    Cert.AttnIdeal.Gen.facts,
    Cert.AttnRefIdeal.Gen.facts,
    Cert.AttnRef.Gen.facts,
    Cert.Merge.Gen.facts,
    Cert.MergeIdeal.Gen.facts,
    Cert.MergeRefIdeal.Gen.facts,
    Cert.MergeOne.Gen.facts,
    Cert.MergeOneIdeal.Gen.facts,
    Cert.MergeOneRefIdeal.Gen.facts,
    Cert.NormProj.Gen.facts,
    Cert.NormProjIdeal.Gen.facts,
    Cert.NormProjRefIdeal.Gen.facts,
    Cert.Proj.Gen.facts,
    Cert.ProjIdeal.Gen.facts,
    Cert.ProjRefIdeal.Gen.facts,
    Cert.Pre_finite.Gen.facts,
    fun m g _ => Cert.Attn.Gen.frame m g,
    fun m g _ => Cert.AttnIdeal.Gen.frame m g,
    fun m g _ => Cert.AttnIdeal.Gen.frame m g,
    frame_attnRefIdeal,
    fun m g _ => frame_attnRefIdeal m g trivial,
    frame_attnRef,
    fun m g _ => Cert.Merge.Gen.frame m g,
    fun m g _ => Cert.MergeIdeal.Gen.frame m g,
    frame_mergeRefIdeal,
    fun m g _ => Cert.MergeOne.Gen.frame m g,
    fun m g _ => Cert.MergeOneIdeal.Gen.frame m g,
    frame_mergeOneRefIdeal,
    fun m g _ => Cert.NormProj.Gen.frame m g,
    fun m g _ => Cert.NormProjIdeal.Gen.frame m g,
    frame_normProjRefIdeal,
    fun m g _ => Cert.Proj.Gen.frame m g,
    fun m g _ => Cert.ProjIdeal.Gen.frame m g,
    frame_projRefIdeal,
    preserves_attention,
    trivial,
    attention,
    trivial,
    merge,
    trivial,
    mergeOne,
    trivial,
    normProject,
    trivial,
    project⟩

end Cert.Proof

end
